-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S12x2304x16x96 : Shape := ⟨4, ![12, 2304, 16, 96]⟩
abbrev S12x2304x16 : Shape := ⟨3, ![12, 2304, 16]⟩
abbrev S12x2304x2x96 : Shape := ⟨4, ![12, 2304, 2, 96]⟩
abbrev S12x2304x2 : Shape := ⟨3, ![12, 2304, 2]⟩
abbrev S12x2 : Shape := ⟨2, ![12, 2]⟩
abbrev S_ : Shape := ⟨0, ![]⟩

class Facts : Prop where
  bcast_S_S12x2304x16 : S_.BroadcastsInDim S12x2304x16 (![] : Fin 0 → Fin S12x2304x16.rank)
  reducesTo_S12x2304x16_S_d0_1_2 : S12x2304x16.ReducesTo [0, 1, 2] S_
  h_S_ : 0 < S_.numel

variable [Facts]

def fn {F : FTy → Type} [FloatOps F] (main_arg0 : FVec F S12x2304x16x96 .fp8e4m3) (main_arg1 : FVec F S12x2304x16 .f32) (main_arg2 : FVec F S12x2304x2x96 .fp8e4m3) (main_arg3 : FVec F S12x2304x2 .f32) (main_arg4 : FVec F S12x2304x2x96 .fp8e4m3) (main_arg5 : FVec F S12x2 .f32) : IVec S_ 1 :=
  let main_cst : FVec F S_ .f32 := constant S_ .f32 0x00000000#32
  let main_v0 : FVec F S12x2304x16 .f32 := broadcastInDim S12x2304x16 ![] bcast_S_S12x2304x16 main_cst
  let main_v1 : IVec S12x2304x16 1 := cmpf .oge main_arg1 main_v0
  let main_c : IVec S_ 1 := constantI S_ 1 1#1
  let main_v2 : IVec S_ 1 := (fun x v => Host.reduce IntOp.andi x v reducesTo_S12x2304x16_S_d0_1_2 h_S_) main_v1 main_c
  main_v2
-- ==== Kernel.lean ====
abbrev S12x2304x16x96 : Shape := ⟨4, ![12, 2304, 16, 96]⟩
abbrev S12x2304x16 : Shape := ⟨3, ![12, 2304, 16]⟩
abbrev S12x2304x2x96 : Shape := ⟨4, ![12, 2304, 2, 96]⟩
abbrev S12x2304x2 : Shape := ⟨3, ![12, 2304, 2]⟩
abbrev S12x2 : Shape := ⟨2, ![12, 2]⟩
abbrev S12x2x2304x96 : Shape := ⟨4, ![12, 2, 2304, 96]⟩
abbrev S12x2x96x2304 : Shape := ⟨4, ![12, 2, 96, 2304]⟩
abbrev S12x2304x2x8 : Shape := ⟨4, ![12, 2304, 2, 8]⟩
abbrev S12x2x2304x8 : Shape := ⟨4, ![12, 2, 2304, 8]⟩
abbrev S12x2x144x128 : Shape := ⟨4, ![12, 2, 144, 128]⟩
abbrev S1x2304x8x96 : Shape := ⟨4, ![1, 2304, 8, 96]⟩
abbrev S1x1x2304x96 : Shape := ⟨4, ![1, 1, 2304, 96]⟩
abbrev S1x1x96x2304 : Shape := ⟨4, ![1, 1, 96, 2304]⟩
abbrev S1x2304x2 : Shape := ⟨3, ![1, 2304, 2]⟩
abbrev S1x1x144x128 : Shape := ⟨4, ![1, 1, 144, 128]⟩
abbrev S2304x128 : Shape := ⟨2, ![2304, 128]⟩
abbrev S2x672x256 : Shape := ⟨3, ![2, 672, 256]⟩
abbrev S1x1 : Shape := ⟨2, ![1, 1]⟩
abbrev S16x128 : Shape := ⟨2, ![16, 128]⟩
abbrev S1x2304x1 : Shape := ⟨3, ![1, 2304, 1]⟩
abbrev S2304x1 : Shape := ⟨2, ![2304, 1]⟩
abbrev S1x128 : Shape := ⟨2, ![1, 128]⟩
abbrev S1x1x32x96 : Shape := ⟨4, ![1, 1, 32, 96]⟩
abbrev S32x96 : Shape := ⟨2, ![32, 96]⟩
abbrev S1x32x8x96 : Shape := ⟨4, ![1, 32, 8, 96]⟩
abbrev S32x8x96 : Shape := ⟨3, ![32, 8, 96]⟩
abbrev S256x96 : Shape := ⟨2, ![256, 96]⟩
abbrev S32x256 : Shape := ⟨2, ![32, 256]⟩
abbrev S1x16x128 : Shape := ⟨3, ![1, 16, 128]⟩
abbrev S128 : Shape := ⟨1, ![128]⟩
abbrev S1x1x1x128 : Shape := ⟨4, ![1, 1, 1, 128]⟩
abbrev S32x128 : Shape := ⟨2, ![32, 128]⟩
abbrev S96x256 : Shape := ⟨2, ![96, 256]⟩
abbrev S128x256 : Shape := ⟨2, ![128, 256]⟩
abbrev S1x1x96x128 : Shape := ⟨4, ![1, 1, 96, 128]⟩
abbrev S96x128 : Shape := ⟨2, ![96, 128]⟩
abbrev S1x256 : Shape := ⟨2, ![1, 256]⟩
abbrev S1x1x64x96 : Shape := ⟨4, ![1, 1, 64, 96]⟩
abbrev S64x96 : Shape := ⟨2, ![64, 96]⟩
abbrev S64x256 : Shape := ⟨2, ![64, 256]⟩
abbrev S64x128 : Shape := ⟨2, ![64, 128]⟩
abbrev S1x1x96x96 : Shape := ⟨4, ![1, 1, 96, 96]⟩
abbrev S96x96 : Shape := ⟨2, ![96, 96]⟩
abbrev S1x1x128x96 : Shape := ⟨4, ![1, 1, 128, 96]⟩
abbrev S128x96 : Shape := ⟨2, ![128, 96]⟩
abbrev S128x128 : Shape := ⟨2, ![128, 128]⟩
abbrev S1x1x160x96 : Shape := ⟨4, ![1, 1, 160, 96]⟩
abbrev S160x96 : Shape := ⟨2, ![160, 96]⟩
abbrev S160x256 : Shape := ⟨2, ![160, 256]⟩
abbrev S160x128 : Shape := ⟨2, ![160, 128]⟩
abbrev S256x256 : Shape := ⟨2, ![256, 256]⟩
abbrev S1x1x96x256 : Shape := ⟨4, ![1, 1, 96, 256]⟩
abbrev S1x1x192x96 : Shape := ⟨4, ![1, 1, 192, 96]⟩
abbrev S192x96 : Shape := ⟨2, ![192, 96]⟩
abbrev S192x256 : Shape := ⟨2, ![192, 256]⟩
abbrev S192x128 : Shape := ⟨2, ![192, 128]⟩
abbrev S1x1x224x96 : Shape := ⟨4, ![1, 1, 224, 96]⟩
abbrev S224x96 : Shape := ⟨2, ![224, 96]⟩
abbrev S224x256 : Shape := ⟨2, ![224, 256]⟩
abbrev S224x128 : Shape := ⟨2, ![224, 128]⟩
abbrev S1x1x256x96 : Shape := ⟨4, ![1, 1, 256, 96]⟩
abbrev S256x128 : Shape := ⟨2, ![256, 128]⟩
abbrev S1x1x288x96 : Shape := ⟨4, ![1, 1, 288, 96]⟩
abbrev S288x96 : Shape := ⟨2, ![288, 96]⟩
abbrev S288x256 : Shape := ⟨2, ![288, 256]⟩
abbrev S288x128 : Shape := ⟨2, ![288, 128]⟩
abbrev S384x256 : Shape := ⟨2, ![384, 256]⟩
abbrev S1x1x96x384 : Shape := ⟨4, ![1, 1, 96, 384]⟩
abbrev S96x384 : Shape := ⟨2, ![96, 384]⟩
abbrev S1x1x320x96 : Shape := ⟨4, ![1, 1, 320, 96]⟩
abbrev S320x96 : Shape := ⟨2, ![320, 96]⟩
abbrev S320x256 : Shape := ⟨2, ![320, 256]⟩
abbrev S320x128 : Shape := ⟨2, ![320, 128]⟩
abbrev S1x1x352x96 : Shape := ⟨4, ![1, 1, 352, 96]⟩
abbrev S352x96 : Shape := ⟨2, ![352, 96]⟩
abbrev S352x256 : Shape := ⟨2, ![352, 256]⟩
abbrev S352x128 : Shape := ⟨2, ![352, 128]⟩
abbrev S1x1x384x96 : Shape := ⟨4, ![1, 1, 384, 96]⟩
abbrev S384x96 : Shape := ⟨2, ![384, 96]⟩
abbrev S384x128 : Shape := ⟨2, ![384, 128]⟩
abbrev S1x1x416x96 : Shape := ⟨4, ![1, 1, 416, 96]⟩
abbrev S416x96 : Shape := ⟨2, ![416, 96]⟩
abbrev S416x256 : Shape := ⟨2, ![416, 256]⟩
abbrev S416x128 : Shape := ⟨2, ![416, 128]⟩
abbrev S512x256 : Shape := ⟨2, ![512, 256]⟩
abbrev S1x1x96x512 : Shape := ⟨4, ![1, 1, 96, 512]⟩
abbrev S96x512 : Shape := ⟨2, ![96, 512]⟩
abbrev S1x1x448x96 : Shape := ⟨4, ![1, 1, 448, 96]⟩
abbrev S448x96 : Shape := ⟨2, ![448, 96]⟩
abbrev S448x256 : Shape := ⟨2, ![448, 256]⟩
abbrev S448x128 : Shape := ⟨2, ![448, 128]⟩
abbrev S1x1x480x96 : Shape := ⟨4, ![1, 1, 480, 96]⟩
abbrev S480x96 : Shape := ⟨2, ![480, 96]⟩
abbrev S480x256 : Shape := ⟨2, ![480, 256]⟩
abbrev S480x128 : Shape := ⟨2, ![480, 128]⟩
abbrev S1x1x512x96 : Shape := ⟨4, ![1, 1, 512, 96]⟩
abbrev S512x96 : Shape := ⟨2, ![512, 96]⟩
abbrev S512x128 : Shape := ⟨2, ![512, 128]⟩
abbrev S1x1x544x96 : Shape := ⟨4, ![1, 1, 544, 96]⟩
abbrev S544x96 : Shape := ⟨2, ![544, 96]⟩
abbrev S544x256 : Shape := ⟨2, ![544, 256]⟩
abbrev S544x128 : Shape := ⟨2, ![544, 128]⟩
abbrev S640x256 : Shape := ⟨2, ![640, 256]⟩
abbrev S1x1x96x640 : Shape := ⟨4, ![1, 1, 96, 640]⟩
abbrev S96x640 : Shape := ⟨2, ![96, 640]⟩
abbrev S1x1x576x96 : Shape := ⟨4, ![1, 1, 576, 96]⟩
abbrev S576x96 : Shape := ⟨2, ![576, 96]⟩
abbrev S576x256 : Shape := ⟨2, ![576, 256]⟩
abbrev S576x128 : Shape := ⟨2, ![576, 128]⟩
abbrev S1x1x608x96 : Shape := ⟨4, ![1, 1, 608, 96]⟩
abbrev S608x96 : Shape := ⟨2, ![608, 96]⟩
abbrev S608x256 : Shape := ⟨2, ![608, 256]⟩
abbrev S608x128 : Shape := ⟨2, ![608, 128]⟩
abbrev S1x1x640x96 : Shape := ⟨4, ![1, 1, 640, 96]⟩
abbrev S640x96 : Shape := ⟨2, ![640, 96]⟩
abbrev S640x128 : Shape := ⟨2, ![640, 128]⟩
abbrev S1x1x672x96 : Shape := ⟨4, ![1, 1, 672, 96]⟩
abbrev S672x96 : Shape := ⟨2, ![672, 96]⟩
abbrev S672x256 : Shape := ⟨2, ![672, 256]⟩
abbrev S672x128 : Shape := ⟨2, ![672, 128]⟩
abbrev S768x256 : Shape := ⟨2, ![768, 256]⟩
abbrev S1x1x96x768 : Shape := ⟨4, ![1, 1, 96, 768]⟩
abbrev S96x768 : Shape := ⟨2, ![96, 768]⟩

abbrev nBuf : Space → Nat
  | .hbm => 13
  | .vmem => 16
  | .smem => 1
  | _ => 0

abbrev bufTy : (tb : Table) → Fin (tcTables nBuf tb) → BufTy
  | .hbm, ⟨0, _⟩ => ⟨S12x2304x16x96, .fp8e4m3⟩
  | .hbm, ⟨1, _⟩ => ⟨S12x2304x16, .f32⟩
  | .hbm, ⟨2, _⟩ => ⟨S12x2304x2x96, .fp8e4m3⟩
  | .hbm, ⟨3, _⟩ => ⟨S12x2304x2, .f32⟩
  | .hbm, ⟨4, _⟩ => ⟨S12x2304x2x96, .fp8e4m3⟩
  | .hbm, ⟨5, _⟩ => ⟨S12x2, .f32⟩
  | .hbm, ⟨6, _⟩ => ⟨S12x2x2304x96, .fp8e4m3⟩
  | .hbm, ⟨7, _⟩ => ⟨S12x2x96x2304, .fp8e4m3⟩
  | .hbm, ⟨8, _⟩ => ⟨S12x2304x2x8, .f32⟩
  | .hbm, ⟨9, _⟩ => ⟨S12x2x2304x8, .f32⟩
  | .hbm, ⟨10, _⟩ => ⟨S12x2x144x128, .f32⟩
  | .hbm, ⟨11, _⟩ => ⟨S12x2304x16x96, .bf16⟩
  | .hbm, ⟨12, _⟩ => ⟨S12x2x144x128, .f32⟩
  | .local _ .vmem, ⟨0, _⟩ => ⟨S1x2304x8x96, .fp8e4m3⟩
  | .local _ .vmem, ⟨1, _⟩ => ⟨S1x2304x8x96, .fp8e4m3⟩
  | .local _ .vmem, ⟨2, _⟩ => ⟨S1x1x2304x96, .fp8e4m3⟩
  | .local _ .vmem, ⟨3, _⟩ => ⟨S1x1x2304x96, .fp8e4m3⟩
  | .local _ .vmem, ⟨4, _⟩ => ⟨S1x1x96x2304, .fp8e4m3⟩
  | .local _ .vmem, ⟨5, _⟩ => ⟨S1x1x96x2304, .fp8e4m3⟩
  | .local _ .vmem, ⟨6, _⟩ => ⟨S1x2304x2, .f32⟩
  | .local _ .vmem, ⟨7, _⟩ => ⟨S1x2304x2, .f32⟩
  | .local _ .vmem, ⟨8, _⟩ => ⟨S1x1x144x128, .f32⟩
  | .local _ .vmem, ⟨9, _⟩ => ⟨S1x1x144x128, .f32⟩
  | .local _ .vmem, ⟨10, _⟩ => ⟨S1x2304x8x96, .bf16⟩
  | .local _ .vmem, ⟨11, _⟩ => ⟨S1x2304x8x96, .bf16⟩
  | .local _ .vmem, ⟨12, _⟩ => ⟨S1x1x144x128, .f32⟩
  | .local _ .vmem, ⟨13, _⟩ => ⟨S1x1x144x128, .f32⟩
  | .local _ .vmem, ⟨14, _⟩ => ⟨S2304x128, .f32⟩
  | .local _ .vmem, ⟨15, _⟩ => ⟨S2x672x256, .f32⟩
  | .local _ .smem, ⟨0, _⟩ => ⟨S12x2, .f32⟩
  | _, _ => ⟨S12x2304x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![12, 2], ![false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop : Scf.Loop 32 :=
  let c0_i32_8401 : BitVec 32 := 0#32
  let c13_i32 : BitVec 32 := 13#32
  let v18321 : BitVec 32 := Scalar.addi c0_i32_8401 c13_i32
  let c1_i32_8402 : BitVec 32 := 1#32
  ⟨c0_i32_8401, v18321, c1_i32_8402⟩
def k0_mult1 (k0_t1 : Fin k0_t1_loop.trips) : BitVec 32 :=
  let c640_i32 : BitVec 32 := 640#32
  let c0_i32_8401 : BitVec 32 := 0#32
  let c1_i32_8402 : BitVec 32 := 1#32
  let arg12 : BitVec 32 := Scf.iv c0_i32_8401 c1_i32_8402 k0_t1
  let c128_i32 : BitVec 32 := 128#32
  let v18322 : BitVec 32 := Scalar.muli arg12 c128_i32
  let v18323 : BitVec 32 := Scalar.addi c640_i32 v18322
  v18323
def k0_mult2 (k0_t1 : Fin k0_t1_loop.trips) : BitVec 32 :=
  let c0_i32_8401 : BitVec 32 := 0#32
  let c1_i32_8402 : BitVec 32 := 1#32
  let arg12 : BitVec 32 := Scf.iv c0_i32_8401 c1_i32_8402 k0_t1
  let c128_i32_8404 : BitVec 32 := 128#32
  let v18325 : BitVec 32 := Scalar.muli arg12 c128_i32_8404
  v18325
def k0_off2 (k0_t1 : Fin k0_t1_loop.trips) (c0_i32_8406 : BitVec 32) : Fin 4 → Nat :=
  let c0_8408 : Index := 0#32
  let c0_8409 : Index := 0#32
  let c0_i32_8401 : BitVec 32 := 0#32
  let c1_i32_8402 : BitVec 32 := 1#32
  let arg12 : BitVec 32 := Scf.iv c0_i32_8401 c1_i32_8402 k0_t1
  let c128_i32_8404 : BitVec 32 := 128#32
  let v18325 : BitVec 32 := Scalar.muli arg12 c128_i32_8404
  let v18326 : BitVec 32 := v18325
  let v18328 : BitVec 32 := Scalar.addi v18326 c0_i32_8406
  let v18333 : Index := Scalar.indexCast v18328
  let c0_8410 : Index := 0#32
  ![0, 0, v18333.toNat, 0]
def k0_off3 (k0_t1 : Fin k0_t1_loop.trips) (c0_i32_8405 : BitVec 32) : Fin 4 → Nat :=
  let c0_8411 : Index := 0#32
  let c640_i32 : BitVec 32 := 640#32
  let c0_i32_8401 : BitVec 32 := 0#32
  let c1_i32_8402 : BitVec 32 := 1#32
  let arg12 : BitVec 32 := Scf.iv c0_i32_8401 c1_i32_8402 k0_t1
  let c128_i32 : BitVec 32 := 128#32
  let v18322 : BitVec 32 := Scalar.muli arg12 c128_i32
  let v18323 : BitVec 32 := Scalar.addi c640_i32 v18322
  let v18324 : BitVec 32 := v18323
  let v18327 : BitVec 32 := Scalar.addi v18324 c0_i32_8405
  let v18336 : Index := Scalar.indexCast v18327
  let c0_8412 : Index := 0#32
  let c0_8413 : Index := 0#32
  ![0, v18336.toNat, 0, 0]
def k0_off4 (k0_t1 : Fin k0_t1_loop.trips) (c0_i32_8406 : BitVec 32) (c0_i32_8415 : BitVec 32) : Fin 2 → Nat :=
  let c0_i32_8401 : BitVec 32 := 0#32
  let c1_i32_8402 : BitVec 32 := 1#32
  let arg12 : BitVec 32 := Scf.iv c0_i32_8401 c1_i32_8402 k0_t1
  let c128_i32_8404 : BitVec 32 := 128#32
  let v18325 : BitVec 32 := Scalar.muli arg12 c128_i32_8404
  let v18326 : BitVec 32 := v18325
  let v18328 : BitVec 32 := Scalar.addi v18326 c0_i32_8406
  let v18342 : BitVec 32 := Scalar.addi v18328 c0_i32_8415
  let v18343 : Index := Scalar.indexCast v18342
  let c0_8416 : Index := 0#32
  ![v18343.toNat, 0]
def k0_off5 (k0_t1 : Fin k0_t1_loop.trips) (c0_i32_8407 : BitVec 32) (c0_i32_8790 : BitVec 32) : Fin 4 → Nat :=
  let c0_8791 : Index := 0#32
  let c0_8792 : Index := 0#32
  let c20_i32 : BitVec 32 := 20#32
  let c0_i32_8401 : BitVec 32 := 0#32
  let c1_i32_8402 : BitVec 32 := 1#32
  let arg12 : BitVec 32 := Scf.iv c0_i32_8401 c1_i32_8402 k0_t1
  let c4_i32 : BitVec 32 := 4#32
  let v18329 : BitVec 32 := Scalar.muli arg12 c4_i32
  let v18330 : BitVec 32 := Scalar.addi c20_i32 v18329
  let v18331 : BitVec 32 := Scalar.addi v18330 c0_i32_8407
  let c2_i32 : BitVec 32 := 2#32
  let v18332 : BitVec 32 := Scalar.muli v18331 c2_i32
  let v19089 : BitVec 32 := Scalar.addi v18332 c0_i32_8790
  let v19090 : Index := Scalar.indexCast v19089
  let c0_8793 : Index := 0#32
  ![0, 0, v19090.toNat, 0]
def k0_off6 (k0_t1 : Fin k0_t1_loop.trips) : Fin 4 → Nat :=
  let c0_9151 : Index := 0#32
  let c0_9152 : Index := 0#32
  let c0_9153 : Index := 0#32
  let c0_i32_8401 : BitVec 32 := 0#32
  let c1_i32_8402 : BitVec 32 := 1#32
  let arg12 : BitVec 32 := Scf.iv c0_i32_8401 c1_i32_8402 k0_t1
  let c128_i32_8404 : BitVec 32 := 128#32
  let v18325 : BitVec 32 := Scalar.muli arg12 c128_i32_8404
  let v18326 : BitVec 32 := v18325
  let v20224 : Index := Scalar.indexCast v18326
  ![0, 0, 0, v20224.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S12x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2304x8x96 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x96x2304 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x8x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x144x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S12x2304x16x96 : Shape := ⟨4, ![12, 2304, 16, 96]⟩
abbrev S12x2304x16 : Shape := ⟨3, ![12, 2304, 16]⟩
abbrev S12x2304x2x96 : Shape := ⟨4, ![12, 2304, 2, 96]⟩
abbrev S12x2304x2 : Shape := ⟨3, ![12, 2304, 2]⟩
abbrev S12x2 : Shape := ⟨2, ![12, 2]⟩
abbrev S12x2304x2x8x96 : Shape := ⟨5, ![12, 2304, 2, 8, 96]⟩
abbrev S12x2x2304x8x96 : Shape := ⟨5, ![12, 2, 2304, 8, 96]⟩
abbrev S24x18432x96 : Shape := ⟨3, ![24, 18432, 96]⟩
abbrev S12x2304x2x8 : Shape := ⟨4, ![12, 2304, 2, 8]⟩
abbrev S12x2x2304x8 : Shape := ⟨4, ![12, 2, 2304, 8]⟩
abbrev S24x18432x1 : Shape := ⟨3, ![24, 18432, 1]⟩
abbrev S12x2x2304x96 : Shape := ⟨4, ![12, 2, 2304, 96]⟩
abbrev S24x2304x96 : Shape := ⟨3, ![24, 2304, 96]⟩
abbrev S12x2x2304 : Shape := ⟨3, ![12, 2, 2304]⟩
abbrev S24x1x2304 : Shape := ⟨3, ![24, 1, 2304]⟩
abbrev S24x1x1 : Shape := ⟨3, ![24, 1, 1]⟩
abbrev S12x2x144x128 : Shape := ⟨4, ![12, 2, 144, 128]⟩
abbrev S24x18432x2304 : Shape := ⟨3, ![24, 18432, 2304]⟩
abbrev S24x18432 : Shape := ⟨2, ![24, 18432]⟩
abbrev S12x2x144x16x8x1 : Shape := ⟨6, ![12, 2, 144, 16, 8, 1]⟩

abbrev nBuf : Space → Nat
  | .hbm => 21
  | .vmem => 8
  | .smem => 0
  | _ => 0

abbrev bufTy : (tb : Table) → Fin (tcTables nBuf tb) → BufTy
  | .hbm, ⟨0, _⟩ => ⟨S12x2304x16x96, .fp8e4m3⟩
  | .hbm, ⟨1, _⟩ => ⟨S12x2304x16, .f32⟩
  | .hbm, ⟨2, _⟩ => ⟨S12x2304x2x96, .fp8e4m3⟩
  | .hbm, ⟨3, _⟩ => ⟨S12x2304x2, .f32⟩
  | .hbm, ⟨4, _⟩ => ⟨S12x2304x2x96, .fp8e4m3⟩
  | .hbm, ⟨5, _⟩ => ⟨S12x2, .f32⟩
  | .hbm, ⟨6, _⟩ => ⟨S12x2304x2x8x96, .fp8e4m3⟩
  | .hbm, ⟨7, _⟩ => ⟨S12x2x2304x8x96, .fp8e4m3⟩
  | .hbm, ⟨8, _⟩ => ⟨S24x18432x96, .fp8e4m3⟩
  | .hbm, ⟨9, _⟩ => ⟨S12x2304x2x8, .f32⟩
  | .hbm, ⟨10, _⟩ => ⟨S12x2x2304x8, .f32⟩
  | .hbm, ⟨11, _⟩ => ⟨S24x18432x1, .f32⟩
  | .hbm, ⟨12, _⟩ => ⟨S12x2x2304x96, .fp8e4m3⟩
  | .hbm, ⟨13, _⟩ => ⟨S24x2304x96, .fp8e4m3⟩
  | .hbm, ⟨14, _⟩ => ⟨S12x2x2304, .f32⟩
  | .hbm, ⟨15, _⟩ => ⟨S24x1x2304, .f32⟩
  | .hbm, ⟨16, _⟩ => ⟨S12x2x2304x96, .fp8e4m3⟩
  | .hbm, ⟨17, _⟩ => ⟨S24x2304x96, .fp8e4m3⟩
  | .hbm, ⟨18, _⟩ => ⟨S24x1x1, .f32⟩
  | .hbm, ⟨19, _⟩ => ⟨S12x2304x16x96, .bf16⟩
  | .hbm, ⟨20, _⟩ => ⟨S12x2x144x128, .f32⟩
  | .local _ .vmem, ⟨0, _⟩ => ⟨S24x18432x96, .fp8e4m3⟩
  | .local _ .vmem, ⟨1, _⟩ => ⟨S24x18432x1, .f32⟩
  | .local _ .vmem, ⟨2, _⟩ => ⟨S24x2304x96, .fp8e4m3⟩
  | .local _ .vmem, ⟨3, _⟩ => ⟨S24x1x2304, .f32⟩
  | .local _ .vmem, ⟨4, _⟩ => ⟨S24x2304x96, .fp8e4m3⟩
  | .local _ .vmem, ⟨5, _⟩ => ⟨S24x1x1, .f32⟩
  | .local _ .vmem, ⟨6, _⟩ => ⟨S12x2304x16x96, .bf16⟩
  | .local _ .vmem, ⟨7, _⟩ => ⟨S12x2x144x128, .f32⟩
  | _, _ => ⟨S12x2304x16x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x18432x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x18432x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2304x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2304x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2304x16x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2x144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/- The frame of the kernel as printed: it runs, leaves its arguments as they were and every counter at zero. Nothing is said
   here of what it leaves in its results. -/
module

public import proofs.«01_k».proof.Proof.Gen.Kernel.Frame.Runs
public import Idealize.ShloMosaic.Lib.Claim

@[expose] public section

set_option maxRecDepth 16384

noncomputable section

namespace Cert.KernelFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 21796000 in
/-- The body runs from its blocks, hands the inputs' back as they were and the results' and the scratch at some contents. -/
theorem kernelRun0_A (c : Dev nD) (i : grid0.Coords) (arg2 : Memref sig .tc .smem S12x2 .f32) (harg2 : arg2.IsWhole) (arg3 : Memref sig .tc .vmem S1x2304x8x96 .fp8e4m3) (harg3 : arg3.IsWhole) (arg4 : Memref sig .tc .vmem S1x1x2304x96 .fp8e4m3) (harg4 : arg4.IsWhole) (arg5 : Memref sig .tc .vmem S1x1x96x2304 .fp8e4m3) (harg5 : arg5.IsWhole) (arg6 : Memref sig .tc .vmem S1x2304x2 .f32) (harg6 : arg6.IsWhole) (arg7 : Memref sig .tc .vmem S1x1x144x128 .f32) (harg7 : arg7.IsWhole) (arg8 : Memref sig .tc .vmem S1x2304x8x96 .bf16) (harg8 : arg8.IsWhole) (arg9 : Memref sig .tc .vmem S1x1x144x128 .f32) (harg9 : arg9.IsWhole) (arg10 : Memref sig .tc .vmem S2304x128 .f32) (harg10 : arg10.IsWhole) (arg11 : Memref sig .tc .vmem S2x672x256 .f32) (harg11 : arg11.IsWhole)
    (x0 : Vec F S12x2 .f32) (x1 : Vec F S1x2304x8x96 .fp8e4m3) (x2 : Vec F S1x1x2304x96 .fp8e4m3) (x3 : Vec F S1x1x96x2304 .fp8e4m3) (x4 : Vec F S1x2304x2 .f32) (x5 : Vec F S1x1x144x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_window_attention i arg2 harg2 arg3 harg3 arg4 harg4 arg5 harg5 arg6 harg6 arg7 harg7 arg8 harg8 arg9 harg9 arg10 harg10 arg11 harg11) K := by
    intro E K
    simp only [cc0_window_attention_eq_skeleton]; unfold cc0_window_attention_skel
    simp only [k0_part659_eq_skeleton, k0_part652_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part653_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part654_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part655_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part656_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part657_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part658_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

/-- A run to the pipeline's post leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 4 rfl).trans ((hA c 4).trans (V_main_arg3 m c)),
      ((h c).2 main_arg4 (Pipeline.mem_restRefs_of main_arg4 (by decide) (by decide))).trans (V_main_arg4 m c),
      (Pipeline.RDat.FramePost.arr_in h c 0 rfl).trans ((hA c 0).trans (V_main_arg5 m c))⟩) h

/-! ## The pipeline's proof data -/

/-- The windows of which nothing is said: the two results. -/
def forgets0 : Fin 8 → Bool := fun w => w.val == 6 || w.val == 7

/-- The pipeline's proof data: the inputs' blocks stay, the results' are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The run, with every counter at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, nothing said of the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelFrame

end
-- ==== Proof.Roll.lean ====
/- One block of 32 query positions of the kernel, written once for every block: the same operations in the
   same order as the program's text, with the repeated rows as families and recursions. -/
module

public import proofs.«01_k».proof.Proof.Gen.KernelIdeal.Loops

@[expose] public section

noncomputable section

namespace Cert.Roll

open Idealize.ShloMosaic Idealize.SL.Sem Cert.KernelIdeal Cert.KernelIdeal.Gen

variable {F : FTy → Type} [FloatOps F]

/-! ## Lists and folds over a run of rows -/

/-- `X s`, then `op` with `X (s+1)`, …, `X (s+k)`. -/
def chain {α : Type} {H : ℕ} (op : α → α → α) (X : Fin H → α) (s : ℕ) : (k : ℕ) → s + k < H → α
  | 0, h => X ⟨s, h⟩
  | k + 1, h => op (chain op X s k (Nat.lt_of_succ_lt h)) (X ⟨s + k + 1, h⟩)

/-- `X (s+k)`, …, `X s` in front of `rest`. -/
def listDown {α : Type} {H : ℕ} (X : Fin H → α) (s : ℕ) (rest : List α) : (k : ℕ) → s + k < H → List α
  | 0, h => X ⟨s, h⟩ :: rest
  | k + 1, h => X ⟨s + k + 1, h⟩ :: listDown X s rest k (Nat.lt_of_succ_lt h)

/-- The first visible row of tile `c`. -/
def start (win : Bool) (c : Fin 2) : ℕ := bif win then c.val else 0

theorem start_le (win : Bool) (c : Fin 2) : start win c ≤ c.val := by
  cases win <;> simp [start]

/-- How many rows follow the first one. -/
def count (win : Bool) (n : ℕ) (c : Fin 2) : ℕ := 2 * n + c.val - start win c

theorem start_count (win : Bool) (n : ℕ) (c : Fin 2) : start win c + count win n c = 2 * n + c.val := by
  have := start_le win c
  unfold count; omega

theorem start_count_lt (win : Bool) (n : ℕ) (c : Fin 2) : start win c + count win n c < 2 * (n + 1) := by
  rw [start_count]; omega

/-! ## Shape facts at every block -/

theorem slices_tile (n : ℕ) (c : Fin 2) (h : Fin (2 * (n + 1))) :
    Shape.Slices (⟨2, ![32 * (n + 1), 256]⟩ : Shape) ![16 * h.val, 128 * c.val] S16x128 := by
  refine ⟨rfl, fun a => ?_⟩
  fin_cases a
  · show 16 * h.val + 16 ≤ 32 * (n + 1); omega
  · show 128 * c.val + 128 ≤ 256; omega

theorem inb_tile (n : ℕ) (hn : n ≤ 20) (slot c : Fin 2) (h : Fin (2 * (n + 1))) :
    ∀ a, (![slot.val, 16 * h.val, 128 * c.val] : Fin 3 → ℕ) a + S1x16x128.size a ≤ S2x672x256.size a := by
  intro a
  fin_cases a
  · show slot.val + 1 ≤ 2; omega
  · show 16 * h.val + 16 ≤ 672; omega
  · show 128 * c.val + 128 ≤ 256; omega

omit [FloatOps F] in
theorem concatenates_rows (n : ℕ) (X : Fin (n + 2) → S32x128.Idx → F .fp8e4m3) :
    Shape.Concatenates ((List.ofFn fun g => (⟨S32x128, X g⟩ : (s : Shape) × (s.Idx → F .fp8e4m3))).map (·.1))
      (⟨2, ![32 * (n + 2), 128]⟩ : Shape) 0 := by
  refine ⟨by simp, ?_, ?_⟩
  · intro s hs
    simp only [List.map_ofFn, List.mem_ofFn, Function.comp] at hs
    obtain ⟨_, rfl⟩ := hs
    refine ⟨rfl, fun b hb => ?_⟩
    fin_cases b
    · exact absurd rfl hb
    · rfl
  · have e : ((List.ofFn fun g => (⟨S32x128, X g⟩ : (s : Shape) × (s.Idx → F .fp8e4m3))).map (·.1)) = List.replicate (n + 2) S32x128 := by
      rw [List.map_ofFn]; exact List.ofFn_const _ _
    rw [e, List.map_replicate, List.sum_replicate]
    show (n + 2) * 32 = 32 * (n + 2)
    omega

theorem concatenates_cols (R : ℕ) :
    Shape.Concatenates [(⟨2, ![R, 128]⟩ : Shape), ⟨2, ![R, 128]⟩] ⟨2, ![R, 256]⟩ 1 := by
  refine ⟨le_rfl, ?_, rfl⟩
  intro s hs
  obtain rfl : s = ⟨2, ![R, 128]⟩ := by simpa using hs
  refine ⟨rfl, fun b hb => ?_⟩
  fin_cases b
  · rfl
  · exact absurd rfl hb

theorem concatenates_pad2 (A B C : ℕ) (hC : A + B = C) :
    Shape.Concatenates [(⟨2, ![A, 256]⟩ : Shape), ⟨2, ![B, 256]⟩] ⟨2, ![C, 256]⟩ 0 := by
  subst hC
  refine ⟨le_rfl, ?_, by simp⟩
  intro s hs
  have hs : s = ⟨2, ![A, 256]⟩ ∨ s = ⟨2, ![B, 256]⟩ := by simpa using hs
  obtain rfl | rfl := hs <;>
  · refine ⟨rfl, fun b hb => ?_⟩
    fin_cases b
    · exact absurd rfl hb
    · rfl

theorem concatenates_pad3 (A B C D : ℕ) (hD : A + (B + C) = D) :
    Shape.Concatenates [(⟨2, ![A, 256]⟩ : Shape), ⟨2, ![B, 256]⟩, ⟨2, ![C, 256]⟩] ⟨2, ![D, 256]⟩ 0 := by
  subst hD
  refine ⟨by simp, ?_, by simp⟩
  intro s hs
  have hs : s = ⟨2, ![A, 256]⟩ ∨ s = ⟨2, ![B, 256]⟩ ∨ s = ⟨2, ![C, 256]⟩ := by simpa using hs
  obtain rfl | rfl | rfl := hs <;>
  · refine ⟨rfl, fun b hb => ?_⟩
    fin_cases b
    · exact absurd rfl hb
    · rfl

/-! ## One block -/

/-- What one block reads. `n + 1` is the number of 32-row groups of keys (at most 21), `win` whether the lower edge of
    the window is inside them, `R = 32 * (n + 1)` the key rows read, `V = R + hi + lo` the value rows read. -/
structure Inp (F : FTy → Type) [FloatOps F] (n lo hi : ℕ) where
  win : Bool
  v2 : F .f32
  mask : IVec S16x128 1
  kb : FVec F ⟨2, ![32 * (n + 1), 96]⟩ .fp8e4m3
  q : Vec F S1x32x8x96 .fp8e4m3
  ks : Fin (2 * (n + 1)) → Vec F S16x128 .f32
  qs : Fin 2 → Vec F S1x1x1x128 .f32
  ln : Fin 2 → FVec F S1x128 .f32
  vt : FVec F ⟨2, ![96, 32 * (n + 1) + hi + lo]⟩ .fp8e4m3

namespace Inp

variable {n lo hi : ℕ} (A : Inp F n lo hi)

/-- Keys by queries: the products of the codes. -/
def st : FVec F ⟨2, ![32 * (n + 1), 256]⟩ .f32 :=
  matmul (DotDims.transposedRhs (32 * (n + 1)) 96 256) none A.kb
    (shapeCast S256x96 (shapeCast S32x8x96 A.q shapeCasts_S1x32x8x96_S32x8x96) shapeCasts_S32x8x96_S256x96)
    (constant ⟨2, ![32 * (n + 1), 256]⟩ .f32 0x00000000#32)

/-- Row group `h` of tile `c`, with the keys' scales. -/
def t (c : Fin 2) (h : Fin (2 * (n + 1))) : FVec F S16x128 .f32 :=
  mulf (extractStridedSlice S16x128 ![16 * h.val, 128 * c.val] A.st (slices_tile n c h)) (A.ks h)

/-- `x` where the key is visible, `z` elsewhere, in the row groups on an edge of the window. -/
def masked (c : Fin 2) (h : Fin (2 * (n + 1))) (x z : FVec F S16x128 .f32) : FVec F S16x128 .f32 :=
  bif Nat.beq h.val (2 * n + c.val) then select A.mask x z
  else bif A.win && Nat.beq h.val c.val then select A.mask z x else x

def rowMax (c : Fin 2) : FVec F S1x128 .f32 :=
  shapeCast S1x128 (multiReduction .maximumf [0] S128
    (chain maximumf (fun h => A.masked c h (A.t c h) (broadcast S16x128 (Scalar.ofBits .f32 0xFF800000#32)))
      (start A.win c) (count A.win n c) (start_count_lt A.win n c))
    0xFF800000#32 reduces_S16x128_S128 (.inl rfl) rfl) shapeCasts_S128_S1x128

def qrow (c : Fin 2) : FVec F S1x128 .f32 := shapeCast S1x128 (A.qs c) shapeCasts_S1x1x1x128_S1x128

/-- The ceiling of the largest visible score. -/
def m (c : Fin 2) : FVec F S1x128 .f32 := ceil (mulf (A.rowMax c) (A.qrow c))

def a (c : Fin 2) : FVec F S1x128 .f32 := mulf (A.qrow c) (broadcast S1x128 (Scalar.ofBits .f32 0x4B000000#32))

def b (c : Fin 2) : FVec F S1x128 .f32 :=
  mulf (subf (broadcast S1x128 (Scalar.ofBits .f32 0x42FE0000#32)) (A.m c)) (broadcast S1x128 (Scalar.ofBits .f32 0x4B000000#32))

/-- The scaled and shifted scores of row group `h`, from the row group `t` read back. -/
def y (c : Fin 2) (t : Vec F S1x16x128 .f32) : FVec F S16x128 .f32 :=
  maximumf (addf (mulf (shapeCast S16x128 t shapeCasts_S1x16x128_S16x128) (broadcastTo S16x128 (A.a c) broadcasts_S1x128_S16x128))
    (broadcastTo S16x128 (A.b c) broadcasts_S1x128_S16x128)) (broadcast S16x128 (Scalar.ofBits .f32 0x00000000#32))

/-- The powers of two of row group `h`; zero for a group no query of the tile sees. -/
def p (tl : Fin 2 → Fin (2 * (n + 1)) → Vec F S1x16x128 .f32) (c : Fin 2) (h : Fin (2 * (n + 1))) : FVec F S16x128 .f32 :=
  bif Nat.blt (2 * n + c.val) h.val || (A.win && Nat.blt h.val c.val) then
    broadcast S16x128 (Scalar.ofBits .f32 0x00000000#32)
  else bitcastToFloat .f32 (fptosi 32 (roundeven
    (A.masked c h (A.y c (tl c h)) (broadcast S16x128 (Scalar.ofBits .f32 0x00000000#32)))))

variable (tl : Fin 2 → Fin (2 * (n + 1)) → Vec F S1x16x128 .f32)

/-- The sum of the powers of two. -/
def l (c : Fin 2) : FVec F S1x128 .f32 :=
  shapeCast S1x128 (multiReduction .add [0] S128
    (chain addf (A.p tl c) (start A.win c) (count A.win n c) (start_count_lt A.win n c))
    0x00000000#32 reduces_S16x128_S128 (.inl rfl) rfl) shapeCasts_S128_S1x128

def lse (c : Fin 2) : FVec F S1x1x1x128 .f32 :=
  shapeCast S1x1x1x128 (subf (addf (A.m c) (divf (log (A.l tl c)) (log (broadcast S1x128 (Scalar.ofBits .f32 0x40000000#32))))) (A.ln c))
    shapeCasts_S1x128_S1x1x1x128

/-- Two neighbouring row groups, rounded to the value format. -/
def pair (c : Fin 2) (g : Fin (n + 1)) : FVec F S32x128 .fp8e4m3 :=
  truncf .fp8e4m3 (concatenate S32x128 0 [⟨S16x128, A.p tl c ⟨2 * g.val, by omega⟩⟩, ⟨S16x128, A.p tl c ⟨2 * g.val + 1, by omega⟩⟩]
    concatenates_S16x128_S16x128_S32x128_d0) bitsLt_fp8e4m3_f32

end Inp

/-- The groups one under another. -/
def rows : (n : ℕ) → (Fin (n + 1) → FVec F S32x128 .fp8e4m3) → FVec F ⟨2, ![32 * (n + 1), 128]⟩ .fp8e4m3
  | 0, X => X 0
  | n + 1, X => concatenate ⟨2, ![32 * (n + 2), 128]⟩ 0 (List.ofFn fun g => ⟨S32x128, X g⟩) (concatenates_rows n X)

/-- `lo` rows of zeros above and `hi` rows of zeros below. -/
def pad (R : ℕ) : (lo hi : ℕ) → FVec F ⟨2, ![R, 256]⟩ .fp8e4m3 → FVec F ⟨2, ![R + hi + lo, 256]⟩ .fp8e4m3
  | 0, 0, X => X
  | 0, hi + 1, X => concatenate ⟨2, ![R + (hi + 1), 256]⟩ 0
      [⟨⟨2, ![R, 256]⟩, X⟩, ⟨⟨2, ![hi + 1, 256]⟩, broadcast _ (Scalar.ofBits .fp8e4m3 0x00#8)⟩] (concatenates_pad2 _ _ _ rfl)
  | lo + 1, 0, X => concatenate ⟨2, ![R + (lo + 1), 256]⟩ 0
      [⟨⟨2, ![lo + 1, 256]⟩, broadcast _ (Scalar.ofBits .fp8e4m3 0x00#8)⟩, ⟨⟨2, ![R, 256]⟩, X⟩] (concatenates_pad2 _ _ _ (Nat.add_comm _ _))
  | lo + 1, hi + 1, X => concatenate ⟨2, ![R + (hi + 1) + (lo + 1), 256]⟩ 0
      [⟨⟨2, ![lo + 1, 256]⟩, broadcast _ (Scalar.ofBits .fp8e4m3 0x00#8)⟩, ⟨⟨2, ![R, 256]⟩, X⟩,
        ⟨⟨2, ![hi + 1, 256]⟩, broadcast _ (Scalar.ofBits .fp8e4m3 0x00#8)⟩] (concatenates_pad3 _ _ _ _ (Nat.add_comm _ _))

namespace Inp

variable {n lo hi : ℕ} (A : Inp F n lo hi) (tl : Fin 2 → Fin (2 * (n + 1)) → Vec F S1x16x128 .f32)

/-- The rounded powers of two of both tiles. -/
def pt : FVec F ⟨2, ![32 * (n + 1), 256]⟩ .fp8e4m3 :=
  concatenate ⟨2, ![32 * (n + 1), 256]⟩ 1
    [⟨⟨2, ![32 * (n + 1), 128]⟩, rows n (A.pair tl 0)⟩, ⟨⟨2, ![32 * (n + 1), 128]⟩, rows n (A.pair tl 1)⟩] (concatenates_cols _)

def inv (c : Fin 2) : FVec F S1x128 .f32 := divf (broadcast S1x128 A.v2) (A.l tl c)

def out : FVec F S1x32x8x96 .bf16 :=
  shapeCast S1x32x8x96 (shapeCast S32x8x96 (truncf .bf16 (transpose S256x96 [1, 0]
    (mulf (matmul (DotDims.plain 96 (32 * (n + 1) + hi + lo) 256) none A.vt (pad _ lo hi (A.pt tl)) (constant S96x256 .f32 0x00000000#32))
      (broadcastTo S96x256 (concatenate S1x256 1 [⟨S1x128, A.inv tl 0⟩, ⟨S1x128, A.inv tl 1⟩] concatenates_S1x128_S1x128_S1x256_d1)
        broadcasts_S1x256_S96x256)) transposes_S96x256_p1_0_S256x96) bitsLt_bf16_f32) shapeCasts_S256x96_S32x8x96)
    shapeCasts_S32x8x96_S1x32x8x96

/-- The scratch's stores of the block, latest first, in front of `rest`. -/
def tPiece (hn : n ≤ 20) (slot c : Fin 2) (h : Fin (2 * (n + 1))) : View.Piece (Elt F) S2x672x256 .f32 :=
  ⟨Rect.unit ![slot.val, 16 * h.val, 128 * c.val] S1x16x128.size (inb_tile n hn slot c h),
    shapeCast S1x16x128 (A.t c h) shapeCasts_S16x128_S1x16x128⟩

def tPieces (hn : n ≤ 20) (slot : Fin 2) (rest : List (View.Piece (Elt F) S2x672x256 .f32)) : List (View.Piece (Elt F) S2x672x256 .f32) :=
  listDown (A.tPiece hn slot 1) (start A.win 1)
    (listDown (A.tPiece hn slot 0) (start A.win 0) rest (count A.win n 0) (start_count_lt A.win n 0))
    (count A.win n 1) (start_count_lt A.win n 1)

/-- The row groups read back from the scratch. -/
def back (hn : n ≤ 20) (slot : Fin 2) (w : View sig .tc .vmem S2x672x256 .f32) (rest : List (View.Piece (Elt F) S2x672x256 .f32))
    (c : Fin 2) (h : Fin (2 * (n + 1))) : Vec F S1x16x128 .f32 :=
  w.readCov (A.tPieces hn slot rest) (Rect.unit (s := S2x672x256) ![slot.val, 16 * h.val, 128 * c.val] S1x16x128.size (inb_tile n hn slot c h)).toLoadRect

end Inp

end Cert.Roll
-- ==== Proof.LoopPieces.lean ====
/- The stores of one trip of the kernel's loop, which handles four blocks of 32 query positions, are the rolled block's. -/
module

public import proofs.«01_k».proof.Proof.Roll
import all proofs.«01_k».proof.Proof.Gen.KernelIdeal.Loops

@[expose] public section

noncomputable section

namespace Cert.Roll

open Idealize.ShloMosaic Idealize.SL.Sem Cert.KernelIdeal Cert.KernelIdeal.Gen

variable {F : FTy → Type} [FloatOps F]

section
variable (arg3 : Memref sig .tc .vmem S1x2304x8x96 .fp8e4m3) (arg4 : Memref sig .tc .vmem S1x1x2304x96 .fp8e4m3)
  (arg5 : Memref sig .tc .vmem S1x1x96x2304 .fp8e4m3) (arg7 : Memref sig .tc .vmem S1x1x144x128 .f32)
  (arg10 : Memref sig .tc .vmem S2304x128 .f32) (arg11 : Memref sig .tc .vmem S2x672x256 .f32)
  (v2 : Elt F .f32) (v29 : IVec S16x128 1) (v18316 : FVec F S1x128 .f32) (X_arg3 : BufTy.Contents (Elt F) arg3.view.ty)
  (X_arg4 : BufTy.Contents (Elt F) arg4.view.ty) (X_arg5 : BufTy.Contents (Elt F) arg5.view.ty)
  (X_arg7 : BufTy.Contents (Elt F) arg7.view.ty) (X_arg10 : BufTy.Contents (Elt F) arg10.view.ty) (k : Fin k0_t1_loop.trips)

theorem pad_casts (u : Fin 4) :
    Shape.ShapeCasts S1x1x96x768 (⟨2, ![96, 32 * (20 + 1) + (96 - 32 * u.val) + 32 * u.val]⟩ : Shape) := by
  fin_cases u <;> decide

/-- What block `u` of trip `k` reads. -/
def loopInp (u : Fin 4) : Inp F 20 (32 * u.val) (96 - 32 * u.val) where
  win := true
  v2 := v2
  mask := v29
  kb := shapeCast S672x96 (View.readAt (Elt F) arg4.view (Rect.unit (s := S1x1x2304x96) (k0_off2 k (BitVec.ofNat 32 (32 * u.val))) S1x1x672x96.size (k0_off2_inb k u)).toLoadRect X_arg4 : Vec F S1x1x672x96 .fp8e4m3) shapeCasts_S1x1x672x96_S672x96
  q := View.readAt (Elt F) arg3.view (Rect.unit (s := S1x2304x8x96) (k0_off3 k (BitVec.ofNat 32 (32 * u.val))) S1x32x8x96.size (k0_off3_inb k u)).toLoadRect X_arg3
  ks := fun h => View.readAt (Elt F) arg10.view (Rect.unit (s := S2304x128) (k0_off4 k (BitVec.ofNat 32 (32 * u.val)) (BitVec.ofNat 32 (16 * h.val))) S16x128.size (k0_off4_inb k u h)).toLoadRect X_arg10
  qs := fun c => View.readAt (Elt F) arg7.view (Rect.unit (s := S1x1x144x128) (k0_off5 k (BitVec.ofNat 32 u.val) (BitVec.ofNat 32 c.val)) S1x1x1x128.size (k0_off5_inb k u c)).toLoadRect X_arg7
  ln := fun _ => divf (log v18316) (log (broadcast S1x128 (Scalar.ofBits .f32 0x40000000#32)))
  vt := shapeCast _ (View.readAt (Elt F) arg5.view (Rect.unit (s := S1x1x96x2304) (k0_off6 k) S1x1x96x768.size (k0_off6_inb k)).toLoadRect X_arg5 : Vec F S1x1x96x768 .fp8e4m3) (pad_casts u)

/-- The scratch's stores of the blocks before `u` of the trip, latest first. -/
def loopHW : ℕ → List (View.Piece (Elt F) S2x672x256 .f32)
  | 0 => []
  | u + 1 => (loopInp arg3 arg4 arg5 arg7 arg10 v2 v29 v18316 X_arg3 X_arg4 X_arg5 X_arg7 X_arg10 k ⟨u % 4, Nat.mod_lt _ (by decide)⟩).tPieces le_rfl
      ⟨u % 2, Nat.mod_lt _ (by decide)⟩ (loopHW u)

/-- The row groups block `u` reads back. -/
def loopBack (u : Fin 4) : Fin 2 → Fin (2 * (20 + 1)) → Vec F S1x16x128 .f32 :=
  (loopInp arg3 arg4 arg5 arg7 arg10 v2 v29 v18316 X_arg3 X_arg4 X_arg5 X_arg7 X_arg10 k u).back le_rfl ⟨u.val % 2, Nat.mod_lt _ (by decide)⟩ arg11.view
    (loopHW arg3 arg4 arg5 arg7 arg10 v2 v29 v18316 X_arg3 X_arg4 X_arg5 X_arg7 X_arg10 k u.val)

/-- Block `u`'s store to the result. -/
def loopOut (u : Fin 4) : View.Piece (Elt F) S1x2304x8x96 .bf16 :=
  ⟨Rect.unit (s := S1x2304x8x96) (k0_off3 k (BitVec.ofNat 32 (32 * u.val))) S1x32x8x96.size (k0_off3_inb k u),
    (loopInp arg3 arg4 arg5 arg7 arg10 v2 v29 v18316 X_arg3 X_arg4 X_arg5 X_arg7 X_arg10 k u).out
      (loopBack arg3 arg4 arg5 arg7 arg10 arg11 v2 v29 v18316 X_arg3 X_arg4 X_arg5 X_arg7 X_arg10 k u)⟩

/-- Block `u`'s store of tile `c` to the logarithms. -/
def loopLse (u : Fin 4) (c : Fin 2) : View.Piece (Elt F) S1x1x144x128 .f32 :=
  ⟨Rect.unit (s := S1x1x144x128) (k0_off5 k (BitVec.ofNat 32 u.val) (BitVec.ofNat 32 c.val)) S1x1x1x128.size (k0_off5_inb k u c),
    (loopInp arg3 arg4 arg5 arg7 arg10 v2 v29 v18316 X_arg3 X_arg4 X_arg5 X_arg7 X_arg10 k u).lse
      (loopBack arg3 arg4 arg5 arg7 arg10 arg11 v2 v29 v18316 X_arg3 X_arg4 X_arg5 X_arg7 X_arg10 k u) c⟩

end

variable (𝒱 : Variants) (c : Dev nD) (bd : Option 𝒱.V) (i : grid0.Coords) (arg2 : Memref sig .tc .smem S12x2 .f32) (harg2 : arg2.IsWhole) (arg3 : Memref sig .tc .vmem S1x2304x8x96 .fp8e4m3) (harg3 : arg3.IsWhole) (arg4 : Memref sig .tc .vmem S1x1x2304x96 .fp8e4m3) (harg4 : arg4.IsWhole) (arg5 : Memref sig .tc .vmem S1x1x96x2304 .fp8e4m3) (harg5 : arg5.IsWhole) (arg6 : Memref sig .tc .vmem S1x2304x2 .f32) (harg6 : arg6.IsWhole) (arg7 : Memref sig .tc .vmem S1x1x144x128 .f32) (harg7 : arg7.IsWhole) (arg8 : Memref sig .tc .vmem S1x2304x8x96 .bf16) (harg8 : arg8.IsWhole) (arg9 : Memref sig .tc .vmem S1x1x144x128 .f32) (harg9 : arg9.IsWhole) (arg10 : Memref sig .tc .vmem S2304x128 .f32) (harg10 : arg10.IsWhole) (arg11 : Memref sig .tc .vmem S2x672x256 .f32) (harg11 : arg11.IsWhole) (v2 : Elt F .f32) (v29 : IVec S16x128 1) (v18316 : FVec F S1x128 .f32) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg10 : BufTy.Contents (Elt F) arg10.view.ty) (k : Fin k0_t1_loop.trips)
  (f8 : BufTy.Contents (Elt F) arg8.view.ty) (f9 : BufTy.Contents (Elt F) arg9.view.ty) (f11 : BufTy.Contents (Elt F) arg11.view.ty)

theorem trip_lse :
    (trip_k0_t1 (F := F) 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 k).2.1 f8 f9 f11
      = [loopLse arg3 arg4 arg5 arg7 arg10 arg11 v2 v29 v18316 X_arg3 X_arg4 X_arg5 X_arg7 X_arg10 k 3 1,
         loopLse arg3 arg4 arg5 arg7 arg10 arg11 v2 v29 v18316 X_arg3 X_arg4 X_arg5 X_arg7 X_arg10 k 3 0,
         loopLse arg3 arg4 arg5 arg7 arg10 arg11 v2 v29 v18316 X_arg3 X_arg4 X_arg5 X_arg7 X_arg10 k 2 1,
         loopLse arg3 arg4 arg5 arg7 arg10 arg11 v2 v29 v18316 X_arg3 X_arg4 X_arg5 X_arg7 X_arg10 k 2 0,
         loopLse arg3 arg4 arg5 arg7 arg10 arg11 v2 v29 v18316 X_arg3 X_arg4 X_arg5 X_arg7 X_arg10 k 1 1,
         loopLse arg3 arg4 arg5 arg7 arg10 arg11 v2 v29 v18316 X_arg3 X_arg4 X_arg5 X_arg7 X_arg10 k 1 0,
         loopLse arg3 arg4 arg5 arg7 arg10 arg11 v2 v29 v18316 X_arg3 X_arg4 X_arg5 X_arg7 X_arg10 k 0 1,
         loopLse arg3 arg4 arg5 arg7 arg10 arg11 v2 v29 v18316 X_arg3 X_arg4 X_arg5 X_arg7 X_arg10 k 0 0] := by
  sl_kernel_rfl

theorem trip_out :
    (trip_k0_t1 (F := F) 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 k).1 f8 f9 f11
      = [loopOut arg3 arg4 arg5 arg7 arg10 arg11 v2 v29 v18316 X_arg3 X_arg4 X_arg5 X_arg7 X_arg10 k 3,
         loopOut arg3 arg4 arg5 arg7 arg10 arg11 v2 v29 v18316 X_arg3 X_arg4 X_arg5 X_arg7 X_arg10 k 2,
         loopOut arg3 arg4 arg5 arg7 arg10 arg11 v2 v29 v18316 X_arg3 X_arg4 X_arg5 X_arg7 X_arg10 k 1,
         loopOut arg3 arg4 arg5 arg7 arg10 arg11 v2 v29 v18316 X_arg3 X_arg4 X_arg5 X_arg7 X_arg10 k 0] := by
  sl_kernel_rfl

end Cert.Roll
-- ==== Proof.BodyPieces.lean ====
/- The stores of the whole kernel body: of the twenty blocks of query positions before the loop, and of the loop's trips. -/
module

public import proofs.«01_k».proof.Proof.LoopPieces

@[expose] public section

noncomputable section

namespace Cert.Roll

open Idealize.ShloMosaic Idealize.SL.Sem Cert.KernelIdeal Cert.KernelIdeal.Gen

variable {F : FTy → Type} [FloatOps F]

theorem inb_keys (n : ℕ) (hn : n < 20) :
    ∀ a, (![0, 0, 0, 0] : Fin 4 → ℕ) a + (⟨4, ![1, 1, 32 * (n + 1), 96]⟩ : Shape).size a ≤ S1x1x2304x96.size a := by
  intro a
  fin_cases a
  · show 0 + 1 ≤ 1; omega
  · show 0 + 1 ≤ 1; omega
  · show 0 + 32 * (n + 1) ≤ 2304; omega
  · show 0 + 96 ≤ 96; omega

theorem inb_vals (n : ℕ) (hn : n < 20) :
    ∀ a, (![0, 0, 0, 0] : Fin 4 → ℕ) a + (⟨4, ![1, 1, 96, 32 * (n + 1) + 32 * (3 - n % 4) + 0]⟩ : Shape).size a ≤ S1x1x96x2304.size a := by
  intro a
  fin_cases a
  · show 0 + 1 ≤ 1; omega
  · show 0 + 1 ≤ 1; omega
  · show 0 + 96 ≤ 96; omega
  · show 0 + (32 * (n + 1) + 32 * (3 - n % 4) + 0) ≤ 2304; omega

theorem inb_queries (n : ℕ) (hn : n < 20) :
    ∀ a, (![0, 32 * n, 0, 0] : Fin 4 → ℕ) a + S1x32x8x96.size a ≤ S1x2304x8x96.size a := by
  intro a
  fin_cases a
  · show 0 + 1 ≤ 1; omega
  · show 32 * n + 32 ≤ 2304; omega
  · show 0 + 8 ≤ 8; omega
  · show 0 + 96 ≤ 96; omega

theorem inb_scales (h : ℕ) (hh : h < 144) :
    ∀ a, (![16 * h, 0] : Fin 2 → ℕ) a + S16x128.size a ≤ S2304x128.size a := by
  intro a
  fin_cases a
  · show 16 * h + 16 ≤ 2304; omega
  · show 0 + 128 ≤ 128; omega

theorem inb_row (r : ℕ) (hr : r < 144) :
    ∀ a, (![0, 0, r, 0] : Fin 4 → ℕ) a + S1x1x1x128.size a ≤ S1x1x144x128.size a := by
  intro a
  fin_cases a
  · show 0 + 1 ≤ 1; omega
  · show 0 + 1 ≤ 1; omega
  · show r + 1 ≤ 144; omega
  · show 0 + 128 ≤ 128; omega

theorem casts_keys (n : ℕ) : Shape.ShapeCasts (⟨4, ![1, 1, 32 * (n + 1), 96]⟩ : Shape) (⟨2, ![32 * (n + 1), 96]⟩ : Shape) := by
  show Shape.numel _ = Shape.numel _
  simp [Shape.numel, Fin.prod_univ_succ]

theorem casts_vals (V : ℕ) : Shape.ShapeCasts (⟨4, ![1, 1, 96, V]⟩ : Shape) (⟨2, ![96, V]⟩ : Shape) := by
  show Shape.numel _ = Shape.numel _
  simp [Shape.numel, Fin.prod_univ_succ]

section
variable (arg3 : Memref sig .tc .vmem S1x2304x8x96 .fp8e4m3) (arg4 : Memref sig .tc .vmem S1x1x2304x96 .fp8e4m3)
  (arg5 : Memref sig .tc .vmem S1x1x96x2304 .fp8e4m3) (arg7 : Memref sig .tc .vmem S1x1x144x128 .f32)
  (arg10 : Memref sig .tc .vmem S2304x128 .f32) (arg11 : Memref sig .tc .vmem S2x672x256 .f32)
  (v2 : Elt F .f32) (v29 : IVec S16x128 1) (X_arg3 : BufTy.Contents (Elt F) arg3.view.ty)
  (X_arg4 : BufTy.Contents (Elt F) arg4.view.ty) (X_arg5 : BufTy.Contents (Elt F) arg5.view.ty)
  (X_arg7 : BufTy.Contents (Elt F) arg7.view.ty) (L_arg10 : List (View.Piece (Elt F) S2304x128 .f32))

/-- What block `n` before the loop reads. -/
def earlyInp (n : Fin 20) : Inp F n.val 0 (32 * (3 - n.val % 4)) where
  win := false
  v2 := v2
  mask := v29
  kb := shapeCast _ (View.readAt (Elt F) arg4.view (Rect.unit (s := S1x1x2304x96) ![0, 0, 0, 0] (⟨4, ![1, 1, 32 * (n.val + 1), 96]⟩ : Shape).size (inb_keys n.val n.isLt)).toLoadRect X_arg4 : Vec F ⟨4, ![1, 1, 32 * (n.val + 1), 96]⟩ .fp8e4m3) (casts_keys n.val)
  q := View.readAt (Elt F) arg3.view (Rect.unit (s := S1x2304x8x96) ![0, 32 * n.val, 0, 0] S1x32x8x96.size (inb_queries n.val n.isLt)).toLoadRect X_arg3
  ks := fun h => arg10.view.readCov L_arg10 (Rect.unit (s := S2304x128) ![16 * h.val, 0] S16x128.size (inb_scales h.val (by omega))).toLoadRect
  qs := fun c => View.readAt (Elt F) arg7.view (Rect.unit (s := S1x1x144x128) ![0, 0, 2 * n.val + c.val, 0] S1x1x1x128.size (inb_row (2 * n.val + c.val) (by omega))).toLoadRect X_arg7
  ln := fun c => divf (log (sitofp .f32 (addi k0_pay1389 (broadcast S1x128 (BitVec.ofNat 32 (32 * n.val + 16 * c.val + 1))))))
    (log (broadcast S1x128 (Scalar.ofBits .f32 0x40000000#32)))
  vt := shapeCast _ (View.readAt (Elt F) arg5.view (Rect.unit (s := S1x1x96x2304) ![0, 0, 0, 0] (⟨4, ![1, 1, 96, 32 * (n.val + 1) + 32 * (3 - n.val % 4) + 0]⟩ : Shape).size (inb_vals n.val n.isLt)).toLoadRect X_arg5 : Vec F ⟨4, ![1, 1, 96, 32 * (n.val + 1) + 32 * (3 - n.val % 4) + 0]⟩ .fp8e4m3) (casts_vals _)

/-- The scratch's stores of the blocks before `n`, latest first. -/
def earlyHW : ℕ → List (View.Piece (Elt F) S2x672x256 .f32)
  | 0 => []
  | n + 1 => (earlyInp arg3 arg4 arg5 arg7 arg10 v2 v29 X_arg3 X_arg4 X_arg5 X_arg7 L_arg10 ⟨n % 20, Nat.mod_lt _ (by decide)⟩).tPieces
      (show n % 20 ≤ 20 by omega) ⟨n % 2, Nat.mod_lt _ (by decide)⟩ (earlyHW n)

/-- The row groups block `n` reads back. -/
def earlyBack (n : Fin 20) : Fin 2 → Fin (2 * (n.val + 1)) → Vec F S1x16x128 .f32 :=
  (earlyInp arg3 arg4 arg5 arg7 arg10 v2 v29 X_arg3 X_arg4 X_arg5 X_arg7 L_arg10 n).back (show n.val ≤ 20 by omega) ⟨n.val % 2, Nat.mod_lt _ (by decide)⟩ arg11.view
    (earlyHW arg3 arg4 arg5 arg7 arg10 v2 v29 X_arg3 X_arg4 X_arg5 X_arg7 L_arg10 n.val)

/-- Block `n`'s store to the result. -/
def earlyOut (n : Fin 20) : View.Piece (Elt F) S1x2304x8x96 .bf16 :=
  ⟨Rect.unit (s := S1x2304x8x96) ![0, 32 * n.val, 0, 0] S1x32x8x96.size (inb_queries n.val n.isLt),
    (earlyInp arg3 arg4 arg5 arg7 arg10 v2 v29 X_arg3 X_arg4 X_arg5 X_arg7 L_arg10 n).out
      (earlyBack arg3 arg4 arg5 arg7 arg10 arg11 v2 v29 X_arg3 X_arg4 X_arg5 X_arg7 L_arg10 n)⟩

/-- Block `n`'s store of tile `c` to the logarithms. -/
def earlyLse (n : Fin 20) (c : Fin 2) : View.Piece (Elt F) S1x1x144x128 .f32 :=
  ⟨Rect.unit (s := S1x1x144x128) ![0, 0, 2 * n.val + c.val, 0] S1x1x1x128.size (inb_row (2 * n.val + c.val) (by omega)),
    (earlyInp arg3 arg4 arg5 arg7 arg10 v2 v29 X_arg3 X_arg4 X_arg5 X_arg7 L_arg10 n).lse
      (earlyBack arg3 arg4 arg5 arg7 arg10 arg11 v2 v29 X_arg3 X_arg4 X_arg5 X_arg7 L_arg10 n) c⟩

/-- The result's stores of the blocks before `n`, latest first. -/
def earlyOuts : ℕ → List (View.Piece (Elt F) S1x2304x8x96 .bf16)
  | 0 => []
  | n + 1 => earlyOut arg3 arg4 arg5 arg7 arg10 arg11 v2 v29 X_arg3 X_arg4 X_arg5 X_arg7 L_arg10 ⟨n % 20, Nat.mod_lt _ (by decide)⟩ :: earlyOuts n

/-- The logarithms' stores of the blocks before `n`, latest first. -/
def earlyLses : ℕ → List (View.Piece (Elt F) S1x1x144x128 .f32)
  | 0 => []
  | n + 1 => earlyLse arg3 arg4 arg5 arg7 arg10 arg11 v2 v29 X_arg3 X_arg4 X_arg5 X_arg7 L_arg10 ⟨n % 20, Nat.mod_lt _ (by decide)⟩ 1
      :: earlyLse arg3 arg4 arg5 arg7 arg10 arg11 v2 v29 X_arg3 X_arg4 X_arg5 X_arg7 L_arg10 ⟨n % 20, Nat.mod_lt _ (by decide)⟩ 0 :: earlyLses n

variable (v18316 : FVec F S1x128 .f32) (X_arg10 : BufTy.Contents (Elt F) arg10.view.ty)

/-- The result's stores of the trips before `k`, latest first. -/
def loopOuts : ℕ → List (View.Piece (Elt F) S1x2304x8x96 .bf16)
  | 0 => []
  | k + 1 => if h : k < k0_t1_loop.trips then
      [loopOut arg3 arg4 arg5 arg7 arg10 arg11 v2 v29 v18316 X_arg3 X_arg4 X_arg5 X_arg7 X_arg10 ⟨k, h⟩ 3, loopOut arg3 arg4 arg5 arg7 arg10 arg11 v2 v29 v18316 X_arg3 X_arg4 X_arg5 X_arg7 X_arg10 ⟨k, h⟩ 2, loopOut arg3 arg4 arg5 arg7 arg10 arg11 v2 v29 v18316 X_arg3 X_arg4 X_arg5 X_arg7 X_arg10 ⟨k, h⟩ 1, loopOut arg3 arg4 arg5 arg7 arg10 arg11 v2 v29 v18316 X_arg3 X_arg4 X_arg5 X_arg7 X_arg10 ⟨k, h⟩ 0] ++ loopOuts k
    else loopOuts k

/-- The logarithms' stores of the trips before `k`, latest first. -/
def loopLses : ℕ → List (View.Piece (Elt F) S1x1x144x128 .f32)
  | 0 => []
  | k + 1 => if h : k < k0_t1_loop.trips then
      [loopLse arg3 arg4 arg5 arg7 arg10 arg11 v2 v29 v18316 X_arg3 X_arg4 X_arg5 X_arg7 X_arg10 ⟨k, h⟩ 3 1, loopLse arg3 arg4 arg5 arg7 arg10 arg11 v2 v29 v18316 X_arg3 X_arg4 X_arg5 X_arg7 X_arg10 ⟨k, h⟩ 3 0, loopLse arg3 arg4 arg5 arg7 arg10 arg11 v2 v29 v18316 X_arg3 X_arg4 X_arg5 X_arg7 X_arg10 ⟨k, h⟩ 2 1, loopLse arg3 arg4 arg5 arg7 arg10 arg11 v2 v29 v18316 X_arg3 X_arg4 X_arg5 X_arg7 X_arg10 ⟨k, h⟩ 2 0, loopLse arg3 arg4 arg5 arg7 arg10 arg11 v2 v29 v18316 X_arg3 X_arg4 X_arg5 X_arg7 X_arg10 ⟨k, h⟩ 1 1, loopLse arg3 arg4 arg5 arg7 arg10 arg11 v2 v29 v18316 X_arg3 X_arg4 X_arg5 X_arg7 X_arg10 ⟨k, h⟩ 1 0, loopLse arg3 arg4 arg5 arg7 arg10 arg11 v2 v29 v18316 X_arg3 X_arg4 X_arg5 X_arg7 X_arg10 ⟨k, h⟩ 0 1, loopLse arg3 arg4 arg5 arg7 arg10 arg11 v2 v29 v18316 X_arg3 X_arg4 X_arg5 X_arg7 X_arg10 ⟨k, h⟩ 0 0] ++ loopLses k
    else loopLses k

end

variable {𝒱 : Variants} {c : Dev nD} {bd : Option 𝒱.V} {i : grid0.Coords} {arg2 : Memref sig .tc .smem S12x2 .f32} {harg2 : arg2.IsWhole} {arg3 : Memref sig .tc .vmem S1x2304x8x96 .fp8e4m3} {harg3 : arg3.IsWhole} {arg4 : Memref sig .tc .vmem S1x1x2304x96 .fp8e4m3} {harg4 : arg4.IsWhole} {arg5 : Memref sig .tc .vmem S1x1x96x2304 .fp8e4m3} {harg5 : arg5.IsWhole} {arg6 : Memref sig .tc .vmem S1x2304x2 .f32} {harg6 : arg6.IsWhole} {arg7 : Memref sig .tc .vmem S1x1x144x128 .f32} {harg7 : arg7.IsWhole} {arg8 : Memref sig .tc .vmem S1x2304x8x96 .bf16} {harg8 : arg8.IsWhole} {arg9 : Memref sig .tc .vmem S1x1x144x128 .f32} {harg9 : arg9.IsWhole} {arg10 : Memref sig .tc .vmem S2304x128 .f32} {harg10 : arg10.IsWhole} {arg11 : Memref sig .tc .vmem S2x672x256 .f32} {harg11 : arg11.IsWhole} {v2 : Elt F .f32} {v29 : IVec S16x128 1} {v18316 : FVec F S1x128 .f32} {X_arg3 : BufTy.Contents (Elt F) arg3.view.ty} {X_arg4 : BufTy.Contents (Elt F) arg4.view.ty} {X_arg5 : BufTy.Contents (Elt F) arg5.view.ty} {X_arg7 : BufTy.Contents (Elt F) arg7.view.ty} {X_arg10 : BufTy.Contents (Elt F) arg10.view.ty}
  {G8 : BufTy.Contents (Elt F) arg8.view.ty} {G9 : BufTy.Contents (Elt F) arg9.view.ty} {G11 : BufTy.Contents (Elt F) arg11.view.ty}

theorem pb_eq (n : ℕ) :
    n ≤ k0_t1_loop.trips →
    (pb_k0_t1 (F := F) 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 G8 G9 G11 n).1 = loopOuts arg3 arg4 arg5 arg7 arg10 arg11 v2 v29 X_arg3 X_arg4 X_arg5 X_arg7 v18316 X_arg10 n
    ∧ (pb_k0_t1 (F := F) 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 G8 G9 G11 n).2.1 = loopLses arg3 arg4 arg5 arg7 arg10 arg11 v2 v29 X_arg3 X_arg4 X_arg5 X_arg7 v18316 X_arg10 n := by
  induction n with
  | zero => exact fun _ => ⟨rfl, rfl⟩
  | succ n ih =>
    intro hn
    obtain ⟨h1, h2⟩ := ih (Nat.le_of_succ_le hn)
    have hn' : n < k0_t1_loop.trips := hn
    have e := pb_k0_t1_succ (F := F) 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 G8 G9 G11 ⟨n, hn'⟩
    constructor
    · refine (congrArg Prod.fst e).trans ?_
      refine Eq.trans (congrArg₂ (· ++ ·) (trip_out 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 ⟨n, hn'⟩ _ _ _) h1) ?_
      rw [loopOuts.eq_2, dif_pos hn']
    · refine (congrArg (fun x => x.2.1) e).trans ?_
      refine Eq.trans (congrArg₂ (· ++ ·) (trip_lse 𝒱 c bd i arg2 harg2 arg3 harg3 arg4 harg4 arg5 harg5 arg6 harg6 arg7 harg7 arg8 harg8 arg9 harg9 arg10 harg10 arg11 harg11 v2 v29 v18316 X_arg3 X_arg4 X_arg5 X_arg7 X_arg10 ⟨n, hn'⟩ _ _ _) h2) ?_
      rw [loopLses.eq_2, dif_pos hn']

end Cert.Roll
-- ==== Proof.Run.lean ====
/- The whole kernel body, run from any contents of its results and scratch: what it leaves in each of them. -/
module

public import proofs.«01_k».proof.Proof.Gen.KernelIdeal.Frame.Runs
public import proofs.«01_k».proof.Proof.BodyPieces

@[expose] public section

set_option maxRecDepth 16384

noncomputable section

namespace Cert.Roll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (i : grid0.Coords) (arg2 : Memref sig .tc .smem S12x2 .f32) (harg2 : arg2.IsWhole) (arg3 : Memref sig .tc .vmem S1x2304x8x96 .fp8e4m3) (harg3 : arg3.IsWhole)
  (arg4 : Memref sig .tc .vmem S1x1x2304x96 .fp8e4m3) (harg4 : arg4.IsWhole) (arg5 : Memref sig .tc .vmem S1x1x96x2304 .fp8e4m3) (harg5 : arg5.IsWhole)
  (arg6 : Memref sig .tc .vmem S1x2304x2 .f32) (harg6 : arg6.IsWhole) (arg7 : Memref sig .tc .vmem S1x1x144x128 .f32) (harg7 : arg7.IsWhole)
  (arg10 : Memref sig .tc .vmem S2304x128 .f32) (arg11 : Memref sig .tc .vmem S2x672x256 .f32)
  (x0 : Vec F S12x2 .f32) (x1 : Vec F S1x2304x8x96 .fp8e4m3) (x2 : Vec F S1x1x2304x96 .fp8e4m3) (x3 : Vec F S1x1x96x2304 .fp8e4m3) (x4 : Vec F S1x2304x2 .f32) (x5 : Vec F S1x1x144x128 .f32)

/-- The scale of the values. -/
def bodyV2 : F .f32 :=
  View.readAt (Elt F) arg2.view (Rect.unit (s := S12x2) (k0_off1 i) S1x1.size (k0_off1_inb i)).toLoadRect (harg2.unread x0)
    (Shape.Idx.first (numel1_S1x1 ▸ Nat.one_pos))

/-- The keys' scales, times the scale of the scores, along every lane. -/
def bodyScales : List (View.Piece (Elt F) S2304x128 .f32) :=
  [⟨Rect.unit (s := S2304x128) ![0, 0] S2304x128.size inb_S2304x128_S2304x128_0_0, k0_pay1388 (k0_pay1387 i
    (View.readAt (Elt F) arg6.view (Rect.unit (s := S1x2304x2) ![0, 0, 0] S1x2304x1.size inb_S1x2304x2_S1x2304x1_0_0_0).toLoadRect (harg6.unread x4))
    (View.readAt (Elt F) arg6.view (Rect.unit (s := S1x2304x2) ![0, 0, 1] S1x2304x1.size inb_S1x2304x2_S1x2304x1_0_0_1).toLoadRect (harg6.unread x4)))⟩]

/-- The result's stores, latest first. -/
def bodyOuts : List (View.Piece (Elt F) S1x2304x8x96 .bf16) :=
  loopOuts arg3 arg4 arg5 arg7 arg10 arg11 (bodyV2 i arg2 harg2 x0) k0_pay1386 (harg3.unread x1) (harg4.unread x2) (harg5.unread x3) (harg7.unread x5) k0_pay4984
      (arg10.view.writes (Elt F) arg10.view.junk (bodyScales i arg6 harg6 x4)) k0_t1_loop.trips
    ++ earlyOuts arg3 arg4 arg5 arg7 arg10 arg11 (bodyV2 i arg2 harg2 x0) k0_pay1386 (harg3.unread x1) (harg4.unread x2) (harg5.unread x3) (harg7.unread x5) (bodyScales i arg6 harg6 x4) 20

/-- The logarithms' stores, latest first. -/
def bodyLses : List (View.Piece (Elt F) S1x1x144x128 .f32) :=
  loopLses arg3 arg4 arg5 arg7 arg10 arg11 (bodyV2 i arg2 harg2 x0) k0_pay1386 (harg3.unread x1) (harg4.unread x2) (harg5.unread x3) (harg7.unread x5) k0_pay4984
      (arg10.view.writes (Elt F) arg10.view.junk (bodyScales i arg6 harg6 x4)) k0_t1_loop.trips
    ++ earlyLses arg3 arg4 arg5 arg7 arg10 arg11 (bodyV2 i arg2 harg2 x0) k0_pay1386 (harg3.unread x1) (harg4.unread x2) (harg5.unread x3) (harg7.unread x5) (bodyScales i arg6 harg6 x4) 20

end

/-- Contents known to be stores over something are those stores over something. -/
theorem writes_of {sp : Space} {s : Shape} {e : EltTy} (c : Dev nD) (w : Memref sig .tc sp s e) (L : List (View.Piece (Elt F) s e)) :
    (iprop(∃ f g, (w.view.loc (c : Thread nD τ) ↦[w.view.set]{fullShare} f) ∗ ⌜f = w.view.writes (Elt F) g L⌝) : sProp 𝕄)
      ⊢ iprop(∃ f, w.view.loc (c : Thread nD τ) ↦[w.view.set]{fullShare} w.view.writes (Elt F) f L) := by
  iintro ⟨%f, %g, H, %h⟩
  subst h
  iexists g
  iexact H

set_option maxHeartbeats 21796000 in
/-- The body, on whole memrefs: it keeps its operands and leaves the listed stores in its results. -/
theorem body_run (c : Dev nD) (i : grid0.Coords) (arg2 : Memref sig .tc .smem S12x2 .f32) (harg2 : arg2.IsWhole) (arg3 : Memref sig .tc .vmem S1x2304x8x96 .fp8e4m3) (harg3 : arg3.IsWhole) (arg4 : Memref sig .tc .vmem S1x1x2304x96 .fp8e4m3) (harg4 : arg4.IsWhole) (arg5 : Memref sig .tc .vmem S1x1x96x2304 .fp8e4m3) (harg5 : arg5.IsWhole) (arg6 : Memref sig .tc .vmem S1x2304x2 .f32) (harg6 : arg6.IsWhole) (arg7 : Memref sig .tc .vmem S1x1x144x128 .f32) (harg7 : arg7.IsWhole) (arg8 : Memref sig .tc .vmem S1x2304x8x96 .bf16) (harg8 : arg8.IsWhole) (arg9 : Memref sig .tc .vmem S1x1x144x128 .f32) (harg9 : arg9.IsWhole) (arg10 : Memref sig .tc .vmem S2304x128 .f32) (harg10 : arg10.IsWhole) (arg11 : Memref sig .tc .vmem S2x672x256 .f32) (harg11 : arg11.IsWhole)
    (x0 : Vec F S12x2 .f32) (x1 : Vec F S1x2304x8x96 .fp8e4m3) (x2 : Vec F S1x1x2304x96 .fp8e4m3) (x3 : Vec F S1x1x96x2304 .fp8e4m3) (x4 : Vec F S1x2304x2 .f32) (x5 : Vec F S1x1x144x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f (bodyOuts i arg2 harg2 arg3 harg3 arg4 harg4 arg5 harg5 arg6 harg6 arg7 harg7 arg10 arg11 x0 x1 x2 x3 x4 x5)) ∗ (∃ f, arg9.view.loc (c : Thread nD τ) ↦[arg9.view.set]{fullShare} arg9.view.writes (Elt F) f (bodyLses i arg2 harg2 arg3 harg3 arg4 harg4 arg5 harg5 arg6 harg6 arg7 harg7 arg10 arg11 x0 x1 x2 x3 x4 x5)) ∗ (∃ f, arg10.view.loc (c : Thread nD τ) ↦[arg10.view.set]{fullShare} arg10.view.writes (Elt F) f (bodyScales i arg6 harg6 x4)) ∗ (∃ d, owns (c : Thread nD τ) arg11 fullShare d)) -∗ K ⟨⟩))
          ⊢ wp frame (wpE (defs₀ (F := F)) Variants.none c none) E (cc0_window_attention i arg2 harg2 arg3 harg3 arg4 harg4 arg5 harg5 arg6 harg6 arg7 harg7 arg8 harg8 arg9 harg9 arg10 harg10 arg11 harg11) K := by
  simp only [cc0_window_attention_eq_skeleton]; unfold cc0_window_attention_skel
  simp only [k0_part659_eq_skeleton, k0_part652_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part653_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part654_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part655_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part656_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part657_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part658_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iapply (writes_of c arg8)
    iexists _, f6
    isplitl [H6]
    · iexact H6
    ipureintro
    refine congrArg (arg8.view.writes (Elt F) f6) ?_
    refine congrArg₂ (· ++ ·) ((pb_eq k0_t1_loop.trips le_rfl).1.trans ?_) ?_
    · sl_kernel_rfl
    · sl_kernel_rfl
  isplitl [H7]
  · iapply (writes_of c arg9)
    iexists _, f7
    isplitl [H7]
    · iexact H7
    ipureintro
    refine congrArg (arg9.view.writes (Elt F) f7) ?_
    refine congrArg₂ (· ++ ·) ((pb_eq k0_t1_loop.trips le_rfl).2.trans ?_) ?_
    · sl_kernel_rfl
    · sl_kernel_rfl
  isplitl [HS0]
  · iapply (writes_of c arg10)
    iexists _, _
    isplitl [HS0]
    · iexact HS0
    ipureintro
    rfl
  iexists _, _; isplitr; swap; · iexact HS1
  ipureintro; rfl

end Cert.Roll
-- ==== Proof.RunValue.lean ====
/- The run of the kernel with its results named: the arrays after the run, block by block. -/
module

public import proofs.«01_k».proof.Proof.Run
public import Idealize.ShloMosaic.Lib.Claim
public import Idealize.ShloMosaic.Lib.Pipeline.Value

@[expose] public section

set_option maxRecDepth 16384

noncomputable section

namespace Cert.Roll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (i : grid0.Coords) (arg2 : Memref sig .tc .smem S12x2 .f32) (harg2 : arg2.IsWhole) (arg3 : Memref sig .tc .vmem S1x2304x8x96 .fp8e4m3) (harg3 : arg3.IsWhole)
  (arg4 : Memref sig .tc .vmem S1x1x2304x96 .fp8e4m3) (harg4 : arg4.IsWhole) (arg5 : Memref sig .tc .vmem S1x1x96x2304 .fp8e4m3) (harg5 : arg5.IsWhole)
  (arg6 : Memref sig .tc .vmem S1x2304x2 .f32) (harg6 : arg6.IsWhole) (arg7 : Memref sig .tc .vmem S1x1x144x128 .f32) (harg7 : arg7.IsWhole)
  (arg10 : Memref sig .tc .vmem S2304x128 .f32) (arg11 : Memref sig .tc .vmem S2x672x256 .f32)
  (x0 : Vec F S12x2 .f32) (x1 : Vec F S1x2304x8x96 .fp8e4m3) (x2 : Vec F S1x1x2304x96 .fp8e4m3) (x3 : Vec F S1x1x96x2304 .fp8e4m3) (x4 : Vec F S1x2304x2 .f32) (x5 : Vec F S1x1x144x128 .f32)

/-- The result's stores cover its block. -/
theorem cover_outs (y : S1x2304x8x96.Idx) : ∃ pc ∈ bodyOuts i arg2 harg2 arg3 harg3 arg4 harg4 arg5 harg5 arg6 harg6 arg7 harg7 arg10 arg11 x0 x1 x2 x3 x4 x5, y ∈ pc.1.set :=
  View.cover_of_tiledL (bodyOuts i arg2 harg2 arg3 harg3 arg4 harg4 arg5 harg5 arg6 harg6 arg7 harg7 arg10 arg11 x0 x1 x2 x3 x4 x5) S1x32x8x96.size (by sl_kernel_rfl) y

/-- The logarithms' stores cover their block. -/
theorem cover_lses (y : S1x1x144x128.Idx) : ∃ pc ∈ bodyLses i arg2 harg2 arg3 harg3 arg4 harg4 arg5 harg5 arg6 harg6 arg7 harg7 arg10 arg11 x0 x1 x2 x3 x4 x5, y ∈ pc.1.set :=
  View.cover_of_tiledL (bodyLses i arg2 harg2 arg3 harg3 arg4 harg4 arg5 harg5 arg6 harg6 arg7 harg7 arg10 arg11 x0 x1 x2 x3 x4 x5) S1x1x1x128.size (by sl_kernel_rfl) y

end

variable (m : (ℓ : Loc nD τ sig) → Buf (Elt F) ℓ) (ρ : Dev nD → PrngReg)

/-- What the body leaves in the result's block at point `t`. -/
def outAt (c : Dev nD) (t : Fin cfg0.N) : Vec F S1x2304x8x96 .bf16 :=
  View.canon (bodyOuts (grid0.coords t) (ms0_0 t) (hs0_0 t) (ms0_1 t) (hs0_1 t) (ms0_2 t) (hs0_2 t) (ms0_3 t) (hs0_3 t) (ms0_4 t) (hs0_4 t) (ms0_5 t) (hs0_5 t) scM0_0 scM0_1 (iblk m c 0 t) (iblk m c 1 t) (iblk m c 2 t) (iblk m c 3 t) (iblk m c 4 t) (iblk m c 5 t))

/-- What the body leaves in the logarithms' block at point `t`. -/
def lseAt (c : Dev nD) (t : Fin cfg0.N) : Vec F S1x1x144x128 .f32 :=
  View.canon (bodyLses (grid0.coords t) (ms0_0 t) (hs0_0 t) (ms0_1 t) (hs0_1 t) (ms0_2 t) (hs0_2 t) (ms0_3 t) (hs0_3 t) (ms0_4 t) (hs0_4 t) (ms0_5 t) (hs0_5 t) scM0_0 scM0_1 (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outAt` and `lseAt`; the invariant the class's
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => lseAt m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = lseAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, ⟨%e6, H6⟩, ⟨%e7, H7⟩, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover_outs _ _ _ _ _ _ _ _ _ _ _ _ _ _ _ _ _ _ _ _ _)
  unfold owns; iexists _; isplitr
  swap; · iexact H7
  ipureintro; exact View.read_writes_eq_canon _ _ _ (cover_lses _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-! ## The arrays after the run -/

/-- What point `t` writes back to the result. -/
theorem flushed6 (c : Dev nD) (t : Fin cfg0.N) :
    (dats m 0 c).flushed 6 t = (cfg0.win 6).cut (grid0.coords t) (outAt m c t) := by
  show (cfg0.win 6).cut (grid0.coords t) ((dats m 0 c).after 6 t) = _
  rw [after0_6]

/-- What point `t` writes back to the logarithms. -/
theorem flushed7 (c : Dev nD) (t : Fin cfg0.N) :
    (dats m 0 c).flushed 7 t = (cfg0.win 7).cut (grid0.coords t) (lseAt m c t) := by
  show (cfg0.win 7).cut (grid0.coords t) ((dats m 0 c).after 7 t) = _
  rw [after0_7]

/-- The index map sends distinct grid points to distinct block indices (decided over the 24 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- The index map sends distinct grid points to distinct block indices (decided over the 24 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 0 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 0).trans (((dats m 0 c).arrAt_in 0 rfl _).trans ((A_eq m c 0).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

end Cert.Roll
-- ==== Proof.Pow2.lean ====
/- The power of two the kernel builds out of integer arithmetic on the encoding, and the one the reference computes from the
   value, are the same number. -/
module

public import Idealize.ShloMosaic.PureOps.Ideal
public import Idealize.ShloMosaic.Lib.Pointwise.Tactic

@[expose] public section

noncomputable section

namespace Cert.Pow2

open Idealize.ShloMosaic

/-! ## The constants -/

theorem c23 : Ideal.ofBits .f32 0x4B000000#32 = ((8388608 : ℝ) : EReal) := by
  simp only [Ideal.ofBits, Ideal.ieee]
  norm_num [BitVec.extractLsb', Nat.shiftRight_eq_div_pow]

theorem c127 : Ideal.ofBits .f32 0x42FE0000#32 = ((127 : ℝ) : EReal) := by
  simp only [Ideal.ofBits, Ideal.ieee]
  norm_num [BitVec.extractLsb', Nat.shiftRight_eq_div_pow]

theorem cm126 : Ideal.ofBits .f32 0xC2FC0000#32 = ((-126 : ℝ) : EReal) := by
  simp only [Ideal.ofBits, Ideal.ieee]
  norm_num [BitVec.extractLsb', Nat.shiftRight_eq_div_pow]

theorem ctiny : Ideal.ofBits .f32 0x00800000#32 = (((2 : ℝ) ^ (-126 : ℤ) : ℝ) : EReal) := by
  simp only [Ideal.ofBits, Ideal.ieee]
  norm_num [BitVec.extractLsb', Nat.shiftRight_eq_div_pow]

theorem cbot : Ideal.ofBits .f32 0xFF800000#32 = (⊥ : EReal) := by
  simp only [Ideal.ofBits, Ideal.ieee]
  norm_num [BitVec.extractLsb', Nat.shiftRight_eq_div_pow]

theorem c0 : Ideal.ofBits .f32 0x00000000#32 = (0 : EReal) := Ideal.ofBits_zero .f32

/-! ## Rounding -/

theorem roundHalfEven_add_even (r : ℝ) (k : ℤ) (hk : Even k) : Ideal.roundHalfEven (r + k) = Ideal.roundHalfEven r + k := by
  unfold Ideal.roundHalfEven
  simp only [Int.floor_add_intCast, Int.cast_add, add_sub_add_right_eq_sub]
  have : Even (⌊r⌋ + k) ↔ Even ⌊r⌋ := by simp [Int.even_add, hk]
  simp only [this]
  split_ifs <;> ring

theorem roundHalfEven_nonpos {r : ℝ} (h : r ≤ 0) : Ideal.roundHalfEven r ≤ 0 := by
  unfold Ideal.roundHalfEven
  have h1 : ⌊r⌋ ≤ 0 := by
    have := Int.floor_le_floor h
    simpa using this
  rcases lt_or_eq_of_le h1 with h2 | h2
  · simp only; split_ifs <;> omega
  · have : r = 0 := by
      have := Int.floor_le r
      rw [h2] at this
      exact le_antisymm h (by simpa using this)
    subst this
    norm_num

/-! ## The kernel's power of two -/

/-- The kernel's reading of a rounded number as an encoding. -/
def dec (z : EReal) : EReal :=
  Ideal.ofBits .f32 (Ideal.fptosi 32 (Ideal.liftRound Ideal.roundHalfEven z))

/-- The value of the encoding `K`, in the range met. -/
theorem ofBits_int (K : ℤ) (h0 : 0 ≤ K) (h1 : K ≤ 127 * 8388608) :
    Ideal.ofBits .f32 (BitVec.ofInt 32 K) =
      if K < 8388608 then (((K : ℝ) * (2 : ℝ) ^ (-149 : ℤ) : ℝ) : EReal)
      else (((8388608 + (K % 8388608 : ℤ) : ℝ) * (2 : ℝ) ^ (K / 8388608 - 150 : ℤ) : ℝ) : EReal) := by
  obtain ⟨n, rfl⟩ := Int.eq_ofNat_of_zero_le h0
  have hn : n ≤ 127 * 8388608 := by exact_mod_cast h1
  have e : (BitVec.ofInt 32 (n : ℤ)).toNat = n := by
    rw [BitVec.ofInt_natCast, BitVec.toNat_ofNat]; omega
  have es : (BitVec.ofInt 32 (n : ℤ)).extractLsb' (8 + 23) 1 = 0#1 := by
    apply BitVec.eq_of_toNat_eq
    rw [BitVec.extractLsb'_toNat, e, Nat.shiftRight_eq_div_pow]
    simp only [BitVec.toNat_ofNat]; omega
  have ee : ((BitVec.ofInt 32 (n : ℤ)).extractLsb' 23 8).toNat = n / 8388608 := by
    rw [BitVec.extractLsb'_toNat, e, Nat.shiftRight_eq_div_pow]; omega
  have ef : ((BitVec.ofInt 32 (n : ℤ)).extractLsb' 0 23).toNat = n % 8388608 := by
    rw [BitVec.extractLsb'_toNat, e, Nat.shiftRight_eq_div_pow]; omega
  show Ideal.ieee 8 23 (BitVec.ofInt 32 (n : ℤ)) = _
  unfold Ideal.ieee
  simp only [es, ee, ef, show ((0#1 : BitVec 1) == 1#1) = false from rfl, Bool.false_eq_true, if_false]
  have h255 : ¬ (n / 8388608 = 2 ^ 8 - 1) := by omega
  rw [if_neg h255]
  by_cases hs : n < 8388608
  · have : n / 8388608 = 0 := by omega
    rw [if_pos this, if_pos (by exact_mod_cast hs), Nat.mod_eq_of_lt hs]
    norm_num
  · have : ¬ n / 8388608 = 0 := by omega
    rw [if_neg this, if_neg (by exact_mod_cast hs)]
    congr 1
    have e2 : ((n : ℤ) % 8388608 : ℤ) = ((n % 8388608 : ℕ) : ℤ) := by simp
    have e3 : ((n : ℤ) / 8388608 : ℤ) = ((n / 8388608 : ℕ) : ℤ) := by simp
    rw [e2, e3]
    have e4 : ((n / 8388608 : ℕ) : ℤ) - (2 ^ (8 - 1) - 1) - ((23 : ℕ) : ℤ) = ((n / 8388608 : ℕ) : ℤ) - 150 := by norm_num; ring
    rw [e4, one_mul, Int.cast_natCast, Nat.cast_add, Nat.cast_pow]
    norm_num

theorem dec_real (z : ℝ) (h1 : z ≤ 127 * 8388608) : dec ((max z 0 : ℝ) : EReal) =
    Ideal.ofBits .f32 (BitVec.ofInt 32 (max (Ideal.roundHalfEven z) 0)) := by
  have hle : Ideal.roundHalfEven z ≤ 127 * 8388608 := by
    have e : z = (z - (127 * 8388608 : ℤ)) + (127 * 8388608 : ℤ) := by ring
    rw [e, roundHalfEven_add_even _ _ (by decide)]
    have := roundHalfEven_nonpos (r := z - (127 * 8388608 : ℤ)) (by push_cast; linarith)
    omega
  have hr : Ideal.roundHalfEven (max z 0) = max (Ideal.roundHalfEven z) 0 := by
    rcases le_total z 0 with h | h
    · rw [max_eq_right h, max_eq_right (roundHalfEven_nonpos h)]
      norm_num [Ideal.roundHalfEven]
    · rw [max_eq_left h, max_eq_left]
      unfold Ideal.roundHalfEven
      have : 0 ≤ ⌊z⌋ := Int.floor_nonneg.mpr h
      simp only; split_ifs <;> omega
  unfold dec
  show Ideal.ofBits .f32 (Ideal.fptosi 32 (((Ideal.roundHalfEven (max z 0) : ℤ) : ℝ) : EReal)) = _
  rw [hr]
  generalize hK : max (Ideal.roundHalfEven z) 0 = K
  have hK0 : 0 ≤ K := by rw [← hK]; exact le_max_right _ _
  have hK1 : K ≤ 127 * 8388608 := by rw [← hK]; exact max_le hle (by norm_num)
  unfold Ideal.fptosi
  congr 2
  show max _ (min _ (if (0 : ℝ) ≤ ((K : ℤ) : ℝ) then ⌊((K : ℤ) : ℝ)⌋ else ⌈((K : ℤ) : ℝ)⌉)) = K
  rw [if_pos (by exact_mod_cast hK0), Int.floor_intCast]
  rw [min_eq_right (by norm_num; omega), max_eq_right (by norm_num; omega)]

theorem dec_zero : dec 0 = 0 := by
  have := dec_real 0 (by norm_num)
  rw [max_self] at this
  rw [show (0 : EReal) = ((0 : ℝ) : EReal) from rfl, this]
  norm_num [Ideal.roundHalfEven]

/-! ## The reference's power of two -/

/-- The reference's power of two of `x`: `x` rounded to 23 fraction bits, its floor's power of two times one plus the rest,
    and below the normal range the multiple of the smallest step. -/
def rp (x : EReal) : EReal :=
  let xr := Ideal.div (Ideal.liftRound Ideal.roundHalfEven (x * ((8388608 : ℝ) : EReal))) ((8388608 : ℝ) : EReal)
  let n := Ideal.liftRound Int.floor xr
  if ((-126 : ℝ) : EReal) ≤ xr then Ideal.exp2 n * (1 + (xr - n)) else max (xr + ((127 : ℝ) : EReal)) 0 * (((2 : ℝ) ^ (-126 : ℤ) : ℝ) : EReal)

theorem rp_bot : rp ⊥ = 0 := by
  have e : Ideal.div (Ideal.liftRound Ideal.roundHalfEven (⊥ * ((8388608 : ℝ) : EReal))) ((8388608 : ℝ) : EReal) = ⊥ := by
    rw [EReal.bot_mul_coe_of_pos (by norm_num)]
    show Ideal.div ⊥ _ = ⊥
    unfold Ideal.div
    rw [if_neg (by exact_mod_cast (by norm_num : (8388608 : ℝ) ≠ 0)), ← EReal.coe_inv, EReal.bot_mul_coe_of_pos (by norm_num)]
  unfold rp
  simp only [e]
  rw [if_neg (by simp)]
  simp

theorem rp_real (x : ℝ) (hx : x ≤ 0) : rp (x : EReal) = dec ((max (x * 8388608 + 127 * 8388608) 0 : ℝ) : EReal) := by
  rw [dec_real _ (by linarith)]
  have e0 : x * 8388608 + 127 * 8388608 = x * 8388608 + ((127 * 8388608 : ℤ) : ℝ) := by push_cast; ring
  rw [e0, roundHalfEven_add_even _ _ (by decide)]
  have hN : Ideal.roundHalfEven (x * 8388608) ≤ 0 := roundHalfEven_nonpos (by linarith)
  have exr : Ideal.div (Ideal.liftRound Ideal.roundHalfEven ((x : EReal) * ((8388608 : ℝ) : EReal))) ((8388608 : ℝ) : EReal)
      = (((Ideal.roundHalfEven (x * 8388608) : ℤ) / 8388608 : ℝ) : EReal) := by
    rw [← EReal.coe_mul]
    show Ideal.div (((Ideal.roundHalfEven (x * 8388608) : ℤ) : ℝ) : EReal) _ = _
    unfold Ideal.div
    rw [if_neg (by exact_mod_cast (by norm_num : (8388608 : ℝ) ≠ 0)), ← EReal.coe_inv, ← EReal.coe_mul, div_eq_mul_inv]
  unfold rp
  simp only [exr]
  generalize Ideal.roundHalfEven (x * 8388608) = N at hN ⊢
  have hfl : ⌊(N : ℝ) / 8388608⌋ = N / 8388608 := by
    have := Int.floor_div_natCast (N : ℝ) 8388608
    rw [Int.floor_intCast] at this
    exact_mod_cast this
  have hlf : Ideal.liftRound Int.floor (((N : ℝ) / 8388608 : ℝ) : EReal) = (((N / 8388608 : ℤ) : ℝ) : EReal) := by
    show (((⌊(N : ℝ) / 8388608⌋ : ℤ) : ℝ) : EReal) = _
    rw [hfl]
  rw [hlf, ofBits_int _ (le_max_right _ _) (max_le (by omega) (by norm_num))]
  have hcmp : ((-126 : ℝ) : EReal) ≤ (((N : ℝ) / 8388608 : ℝ) : EReal) ↔ 8388608 ≤ N + 127 * 8388608 := by
    rw [EReal.coe_le_coe_iff, le_div_iff₀ (by norm_num)]
    constructor
    · intro h
      have : ((-126 * 8388608 : ℤ) : ℝ) ≤ (N : ℝ) := by push_cast; linarith
      have := Int.cast_le.mp this
      omega
    · intro h
      have : (-126 * 8388608 : ℤ) ≤ N := by omega
      have := (Int.cast_le (R := ℝ)).mpr this
      push_cast at this; linarith
  by_cases h : 8388608 ≤ N + 127 * 8388608
  · rw [if_pos (hcmp.mpr h), max_eq_left (by omega), if_neg (by omega)]
    show ((Real.rpow 2 ((N / 8388608 : ℤ) : ℝ) : ℝ) : EReal) * (1 + ((((N : ℝ) / 8388608 : ℝ) : EReal) - _)) = _
    rw [← EReal.coe_sub, ← EReal.coe_one, ← EReal.coe_add, ← EReal.coe_mul]
    congr 1
    have e1 : (N + 127 * 8388608) % 8388608 = N % 8388608 := by omega
    have e2 : (N + 127 * 8388608) / 8388608 - 150 = N / 8388608 + (-23) := by omega
    rw [e1, e2, zpow_add₀ (by norm_num)]
    have e3 : Real.rpow 2 ((N / 8388608 : ℤ) : ℝ) = (2 : ℝ) ^ (N / 8388608 : ℤ) := Real.rpow_intCast 2 _
    rw [e3]
    have e4 : (N : ℝ) = 8388608 * ((N / 8388608 : ℤ) : ℝ) + ((N % 8388608 : ℤ) : ℝ) := by
      exact_mod_cast (Int.mul_ediv_add_emod N 8388608).symm
    generalize ((N / 8388608 : ℤ) : ℝ) = A at *
    generalize ((N % 8388608 : ℤ) : ℝ) = B at *
    rw [e4]
    norm_num
    ring
  · rw [if_neg (fun h' => h (hcmp.mp h'))]
    rw [if_pos (max_lt (by omega) (by norm_num))]
    rw [← EReal.coe_add, show (0 : EReal) = ((0 : ℝ) : EReal) from rfl, ← EReal.coe_strictMono.monotone.map_max, ← EReal.coe_mul]
    congr 1
    have e5 : (((max (N + 127 * 8388608) 0 : ℤ)) : ℝ) = max ((N : ℝ) / 8388608 + 127) 0 * 8388608 := by
      push_cast
      rw [max_mul_of_nonneg _ _ (by norm_num : (0 : ℝ) ≤ 8388608)]
      congr 1 <;> ring
    rw [e5]
    norm_num
    ring

/-- The kernel's power of two of a score `s` no larger than the ceiling `m` of the scores' maximum is the reference's of
    `s - m`. -/
theorem dec_eq_rp (s M : EReal) (h : s ≤ M) :
    dec (max (s * ((8388608 : ℝ) : EReal) + (((127 : ℝ) : EReal) - Ideal.liftRound Int.ceil M) * ((8388608 : ℝ) : EReal)) 0)
      = rp (s - Ideal.liftRound Int.ceil M) := by
  have hpos : (0 : ℝ) < 8388608 := by norm_num
  induction M using EReal.rec with
  | bot =>
    obtain rfl : s = ⊥ := le_bot_iff.mp h
    show dec (max (⊥ * _ + (_ - ⊥) * _) 0) = rp (⊥ - ⊥)
    rw [EReal.bot_mul_coe_of_pos hpos, EReal.bot_add, EReal.bot_sub, rp_bot, max_eq_right bot_le, dec_zero]
  | top =>
    show dec (max (_ + (((127 : ℝ) : EReal) - ⊤) * _) 0) = rp (s - ⊤)
    rw [EReal.sub_top, EReal.sub_top, EReal.bot_mul_coe_of_pos hpos, EReal.add_bot, rp_bot, max_eq_right bot_le, dec_zero]
  | coe M =>
    show dec (max (_ + (((127 : ℝ) : EReal) - (((⌈M⌉ : ℤ) : ℝ) : EReal)) * _) 0) = rp (s - (((⌈M⌉ : ℤ) : ℝ) : EReal))
    induction s using EReal.rec with
    | bot => rw [EReal.bot_mul_coe_of_pos hpos, EReal.bot_add, EReal.bot_sub, rp_bot, max_eq_right bot_le, dec_zero]
    | top => exact absurd h (by simp)
    | coe s =>
      have hs : s ≤ (⌈M⌉ : ℤ) := (EReal.coe_le_coe_iff.mp h).trans (Int.le_ceil M)
      rw [← EReal.coe_sub, ← EReal.coe_sub, rp_real _ (by linarith), ← EReal.coe_mul, ← EReal.coe_mul, ← EReal.coe_add,
        show (0 : EReal) = ((0 : ℝ) : EReal) from rfl, ← EReal.coe_strictMono.monotone.map_max]
      congr 3
      ring

end Cert.Pow2
-- ==== Proof.RollIdeal.lean ====
/- One block of the kernel at the exact numbers: every operation read at an index. -/
module

public import proofs.«01_k».proof.Proof.Roll
public import proofs.«01_k».proof.Proof.Pow2
public import Idealize.ShloMosaic.Lib.MatmulPlain
public import Idealize.ShloMosaic.Lib.Pipeline.Value
public import Idealize.ShloMosaic.Lib.Pointwise

@[expose] public section

noncomputable section

namespace Cert.Roll

open Idealize.ShloMosaic Idealize.SL.Sem Cert.KernelIdeal Cert.KernelIdeal.Gen

/-! ## Folds -/

theorem chain_max_le {H : ℕ} {s : Shape} {φ : FTy} (X : Fin H → FVec Ideal s φ) (i : s.Idx) (st : ℕ) (x : EReal) :
    ∀ (k : ℕ) (hk : st + k < H), (chain maximumf X st k hk i ≤ x) ↔ ∀ h : Fin H, st ≤ h.val → h.val ≤ st + k → X h i ≤ x
  | 0, hk => by
    constructor
    · intro h g h1 h2
      obtain rfl : g = ⟨st, hk⟩ := Fin.ext (by show g.val = st; omega)
      exact h
    · intro h; exact h ⟨st, hk⟩ le_rfl le_rfl
  | k + 1, hk => by
    show max (chain maximumf X st k _ i) (X _ i) ≤ x ↔ _
    rw [max_le_iff, chain_max_le X i st x k]
    constructor
    · rintro ⟨h1, h2⟩ g hg1 hg2
      by_cases hg : g.val ≤ st + k
      · exact h1 g hg1 hg
      · obtain rfl : g = ⟨st + k + 1, hk⟩ := Fin.ext (by show g.val = st + k + 1; omega)
        exact h2
    · intro h
      exact ⟨fun g h1 h2 => h g h1 (by omega), h ⟨st + k + 1, hk⟩ (by show st ≤ st + k + 1; omega) (by show st + k + 1 ≤ st + (k + 1); omega)⟩

theorem chain_add {H : ℕ} {s : Shape} {φ : FTy} (X : Fin H → FVec Ideal s φ) (i : s.Idx) (st : ℕ) :
    ∀ (k : ℕ) (hk : st + k < H), chain addf X st k hk i = ∑ h : Fin H, (if st ≤ h.val ∧ h.val ≤ st + k then (X h i : EReal) else 0)
  | 0, hk => by
    rw [Finset.sum_eq_single (⟨st, hk⟩ : Fin H)]
    · rw [if_pos (by constructor <;> show _ ≤ _ <;> simp)]; rfl
    · intro g _ hg
      rw [if_neg]
      rintro ⟨h1, h2⟩
      exact hg (Fin.ext (by show g.val = st; omega))
    · intro h; exact absurd (Finset.mem_univ _) h
  | k + 1, hk => by
    show (chain addf X st k _ i : EReal) + X ⟨st + k + 1, hk⟩ i = _
    rw [chain_add X i st k]
    have e : (X ⟨st + k + 1, hk⟩ i : EReal) = ∑ h : Fin H, if h = ⟨st + k + 1, hk⟩ then (X h i : EReal) else 0 := by
      rw [Finset.sum_ite_eq' Finset.univ]; simp
    rw [e, ← Finset.sum_add_distrib]
    refine Finset.sum_congr rfl fun h _ => ?_
    by_cases h1 : h = ⟨st + k + 1, hk⟩
    · subst h1
      rw [if_neg (by show ¬ (st ≤ st + k + 1 ∧ st + k + 1 ≤ st + k); omega), if_pos rfl,
        if_pos (by show st ≤ st + k + 1 ∧ st + k + 1 ≤ st + (k + 1); omega), zero_add]
    · rw [if_neg h1, add_zero]
      have : h.val ≠ st + k + 1 := fun h' => h1 (Fin.ext h')
      congr 1
      apply propext
      constructor <;> rintro ⟨a, b⟩ <;> exact ⟨a, by omega⟩

/-- Sixteen rows of `H` groups as one run of rows. -/
theorem sum_groups (n : ℕ) (f : Fin (2 * (n + 1)) → Fin 16 → EReal) :
    ∑ r : Fin 16, ∑ h : Fin (2 * (n + 1)), f h r =
      ∑ ρ : Fin (32 * (n + 1)), f ⟨ρ.val / 16, by omega⟩ ⟨ρ.val % 16, Nat.mod_lt _ (by decide)⟩ := by
  rw [Finset.sum_comm, ← Finset.sum_product' Finset.univ Finset.univ f]
  refine Finset.sum_bij' (fun p _ => ⟨16 * p.1.val + p.2.val, by omega⟩)
    (fun ρ _ => (⟨ρ.val / 16, by omega⟩, ⟨ρ.val % 16, Nat.mod_lt _ (by decide)⟩)) ?_ ?_ ?_ ?_ ?_
  · intros; exact Finset.mem_univ _
  · intros; exact Finset.mem_univ _
  · rintro ⟨h, r⟩ _
    refine Prod.ext (Fin.ext ?_) (Fin.ext ?_)
    · show (16 * h.val + r.val) / 16 = h.val; omega
    · show (16 * h.val + r.val) % 16 = r.val; omega
  · intro ρ _
    refine Fin.ext ?_
    show 16 * (ρ.val / 16) + ρ.val % 16 = ρ.val; omega
  · rintro ⟨h, r⟩ _
    congr 1
    · refine Fin.ext ?_
      show h.val = (16 * h.val + r.val) / 16; omega
    · refine Fin.ext ?_
      show r.val = (16 * h.val + r.val) % 16; omega

/-! ## Two blocks put together -/

section
variable {α : Type} {A B C W : ℕ}

theorem cat0_l (x₁ : (⟨2, ![A, W]⟩ : Shape).Idx → α) (x₂ : (⟨2, ![B, W]⟩ : Shape).Idx → α)
    (h : Shape.Concatenates [(⟨2, ![A, W]⟩ : Shape), ⟨2, ![B, W]⟩] (⟨2, ![C, W]⟩ : Shape) 0) (r : Fin C) (i : Fin W) (hr : r.val < A) :
    concatenate ⟨2, ![C, W]⟩ 0 [⟨⟨2, ![A, W]⟩, x₁⟩, ⟨⟨2, ![B, W]⟩, x₂⟩] h (ix2 r i) = x₁ (ix2 (⟨r.val, hr⟩ : Fin A) i) :=
  concatenate_pair_apply_left 0 x₁ x₂ h (ix2 r i) rfl _ (by intro b; fin_cases b <;> rfl)

theorem cat0_r (x₁ : (⟨2, ![A, W]⟩ : Shape).Idx → α) (x₂ : (⟨2, ![B, W]⟩ : Shape).Idx → α)
    (h : Shape.Concatenates [(⟨2, ![A, W]⟩ : Shape), ⟨2, ![B, W]⟩] (⟨2, ![C, W]⟩ : Shape) 0) (r : Fin C) (i : Fin W) (hr : A ≤ r.val)
    (hB : r.val - A < B) :
    concatenate ⟨2, ![C, W]⟩ 0 [⟨⟨2, ![A, W]⟩, x₁⟩, ⟨⟨2, ![B, W]⟩, x₂⟩] h (ix2 r i) = x₂ (ix2 (⟨r.val - A, hB⟩ : Fin B) i) :=
  concatenate_pair_apply_right 0 x₁ x₂ h (ix2 r i) rfl rfl _ (by intro b hb; fin_cases b; exact absurd rfl hb; rfl)
    (by show r.val - A + A = r.val; omega)

theorem cat1_l (x₁ : (⟨2, ![W, A]⟩ : Shape).Idx → α) (x₂ : (⟨2, ![W, B]⟩ : Shape).Idx → α)
    (h : Shape.Concatenates [(⟨2, ![W, A]⟩ : Shape), ⟨2, ![W, B]⟩] (⟨2, ![W, C]⟩ : Shape) 1) (r : Fin W) (i : Fin C) (hr : i.val < A) :
    concatenate ⟨2, ![W, C]⟩ 1 [⟨⟨2, ![W, A]⟩, x₁⟩, ⟨⟨2, ![W, B]⟩, x₂⟩] h (ix2 r i) = x₁ (ix2 r (⟨i.val, hr⟩ : Fin A)) :=
  concatenate_pair_apply_left 1 x₁ x₂ h (ix2 r i) rfl _ (by intro b; fin_cases b <;> rfl)

theorem cat1_r (x₁ : (⟨2, ![W, A]⟩ : Shape).Idx → α) (x₂ : (⟨2, ![W, B]⟩ : Shape).Idx → α)
    (h : Shape.Concatenates [(⟨2, ![W, A]⟩ : Shape), ⟨2, ![W, B]⟩] (⟨2, ![W, C]⟩ : Shape) 1) (r : Fin W) (i : Fin C) (hr : A ≤ i.val)
    (hB : i.val - A < B) :
    concatenate ⟨2, ![W, C]⟩ 1 [⟨⟨2, ![W, A]⟩, x₁⟩, ⟨⟨2, ![W, B]⟩, x₂⟩] h (ix2 r i) = x₂ (ix2 r (⟨i.val - A, hB⟩ : Fin B)) :=
  concatenate_pair_apply_right 1 x₁ x₂ h (ix2 r i) rfl rfl _ (by intro b hb; fin_cases b; rfl; exact absurd rfl hb)
    (by show i.val - A + A = i.val; omega)

end

/-! ## The block's quantities -/

namespace Inp

variable {n lo hi : ℕ} (A : Inp Ideal n lo hi)

/-- The product of the codes of key `ρ` and query column `col`, times the key's scale. -/
def T (ρ : Fin (32 * (n + 1))) (c : Fin 2) (j : Fin 128) : EReal :=
  (∑ d : Fin 96, A.kb (ix2 ρ d) * A.q (ix4 (0 : Fin 1) (⟨16 * c.val + j.val / 8, by omega⟩ : Fin 32) (⟨j.val % 8, Nat.mod_lt _ (by decide)⟩ : Fin 8) d))
    * A.ks ⟨ρ.val / 16, by omega⟩ (ix2 (⟨ρ.val % 16, Nat.mod_lt _ (by decide)⟩ : Fin 16) j)

/-- Whether query column `j` of tile `c` sees key `ρ`. -/
def Vis (ρ : Fin (32 * (n + 1))) (c : Fin 2) (j : Fin 128) : Prop :=
  ρ.val ≤ 32 * n + 16 * c.val + j.val / 8 ∧ (A.win = true → 16 * c.val + j.val / 8 < ρ.val)

instance (ρ : Fin (32 * (n + 1))) (c : Fin 2) (j : Fin 128) : Decidable (A.Vis ρ c j) := by unfold Vis; infer_instance

def row (h : Fin (2 * (n + 1))) (r : Fin 16) : Fin (32 * (n + 1)) := ⟨16 * h.val + r.val, by omega⟩

theorem st_apply (ρ : Fin (32 * (n + 1))) (c : Fin 256) :
    A.st (ix2 ρ c) = ∑ d : Fin 96, A.kb (ix2 ρ d) * A.q (ix4 (0 : Fin 1) (⟨c.val / 8, by omega⟩ : Fin 32) (⟨c.val % 8, Nat.mod_lt _ (by decide)⟩ : Fin 8) d) := by
  refine (Ideal.matmul_transposedRhs_apply none _ _ _ ρ c).trans ?_
  refine (congrArg (· + _) Pow2.c0).trans ((zero_add _).trans ?_)
  refine Finset.sum_congr rfl fun d _ => ?_
  congr 1
  pointwise

theorem t_apply (c : Fin 2) (h : Fin (2 * (n + 1))) (r : Fin 16) (j : Fin 128) : A.t c h (ix2 r j) = A.T (row h r) c j := by
  have e : extractStridedSlice S16x128 ![16 * h.val, 128 * c.val] A.st (slices_tile n c h) (ix2 r j)
      = A.st (ix2 (row h r) (⟨128 * c.val + j.val, by omega⟩ : Fin 256)) := by
    unfold extractStridedSlice
    congr 1
    funext a
    fin_cases a <;> rfl
  show extractStridedSlice S16x128 ![16 * h.val, 128 * c.val] A.st (slices_tile n c h) (ix2 r j) * A.ks h (ix2 r j) = _
  rw [e, st_apply]
  unfold T
  have e1 : (128 * c.val + j.val) / 8 = 16 * c.val + j.val / 8 := by omega
  have e2 : (128 * c.val + j.val) % 8 = j.val % 8 := by omega
  have e3 : (row h r).val / 16 = h.val := by show (16 * h.val + r.val) / 16 = h.val; omega
  have e4 : (row h r).val % 16 = r.val := by show (16 * h.val + r.val) % 16 = r.val; omega
  simp only [e1, e2, e3, e4]

/-- The mask's bit at row `r` and lane `j`: the key is no later than the query in the edge group. -/
def MaskOk : Prop := ∀ (r : Fin 16) (j : Fin 128), A.mask (ix2 r j) = 1 ↔ r.val ≤ j.val / 8

variable (hm : A.MaskOk)
include hm

theorem masked_apply (c : Fin 2) (h : Fin (2 * (n + 1))) (x z : FVec Ideal S16x128 .f32) (r : Fin 16) (j : Fin 128)
    (h1 : h.val ≤ 2 * n + c.val) (h2 : A.win = true → c.val ≤ h.val) (hn : A.win = true → 0 < n) :
    A.masked c h x z (ix2 r j) = if A.Vis (row h r) c j then x (ix2 r j) else z (ix2 r j) := by
  unfold masked
  by_cases e1 : h.val = 2 * n + c.val
  · rw [(Nat.beq_eq ▸ e1 : Nat.beq h.val (2 * n + c.val) = true), cond_true]
    show (if A.mask (ix2 r j) = 1 then _ else _) = _
    congr 1
    apply propext
    rw [hm]
    unfold Vis row
    show _ ↔ (16 * h.val + r.val ≤ _ ∧ (_ → _ < 16 * h.val + r.val))
    constructor
    · intro hr; exact ⟨by omega, fun hw => by have := hn hw; omega⟩
    · rintro ⟨hr, -⟩; omega
  · have e1' : Nat.beq h.val (2 * n + c.val) = false := by
      rw [← Bool.not_eq_true, Nat.beq_eq]; exact e1
    rw [e1', cond_false]
    by_cases e2 : A.win = true ∧ h.val = c.val
    · rw [e2.1, (Nat.beq_eq ▸ e2.2 : Nat.beq h.val c.val = true)]
      show (if A.mask (ix2 r j) = 1 then z (ix2 r j) else x (ix2 r j)) = _
      have hv : A.Vis (row h r) c j ↔ ¬ A.mask (ix2 r j) = 1 := by
        rw [hm]
        unfold Vis row
        show (16 * h.val + r.val ≤ _ ∧ (_ → _ < 16 * h.val + r.val)) ↔ _
        constructor
        · rintro ⟨-, hr⟩; have := hr e2.1; omega
        · intro hr; exact ⟨by omega, fun _ => by omega⟩
      by_cases hb : A.mask (ix2 r j) = 1
      · rw [if_pos hb, if_neg (fun h' => (hv.mp h') hb)]
      · rw [if_neg hb, if_pos (hv.mpr hb)]
    · have e2' : (A.win && Nat.beq h.val c.val) = false := by
        rw [← Bool.not_eq_true, Bool.and_eq_true, Nat.beq_eq]; exact e2
      rw [e2', cond_false, if_pos]
      unfold Vis row
      show (16 * h.val + r.val ≤ _ ∧ (_ → _ < 16 * h.val + r.val))
      refine ⟨by omega, fun hw => ?_⟩
      have := h2 hw
      have : h.val ≠ c.val := fun h' => e2 ⟨hw, h'⟩
      omega

omit hm in
theorem lift_ix (j : Fin 128) (r : Fin 16) : reduces_S16x128_S128.lift (ix1 j) r = ix2 r j := by
  funext a
  fin_cases a <;> rfl

theorem rowMax_le (hn : A.win = true → 0 < n) (c : Fin 2) (j : Fin 128) (x : EReal) :
    A.rowMax c (ix2 (0 : Fin 1) j) ≤ x ↔ ∀ ρ, A.Vis ρ c j → A.T ρ c j ≤ x := by
  have e : A.rowMax c (ix2 (0 : Fin 1) j) = (Finset.univ : Finset (Fin 16)).fold max (⊥ : EReal)
      (fun r => chain maximumf (fun h => A.masked c h (A.t c h) (broadcast S16x128 (Scalar.ofBits .f32 0xFF800000#32)))
        (start A.win c) (count A.win n c) (start_count_lt A.win n c) (ix2 r j)) := by
    have e0 : A.rowMax c (ix2 (0 : Fin 1) j) = multiReduction .maximumf [0] S128
        (chain maximumf (fun h => A.masked c h (A.t c h) (broadcast S16x128 (Scalar.ofBits .f32 0xFF800000#32)))
          (start A.win c) (count A.win n c) (start_count_lt A.win n c))
        0xFF800000#32 reduces_S16x128_S128 (.inl rfl) rfl (ix1 j) := by
      unfold rowMax
      pointwise
    refine e0.trans ((Ideal.multiReduction_maximumf_single _ _ _ _ _ _).trans ?_)
    refine congrArg₂ (fun b f => (Finset.univ : Finset (Fin 16)).fold max b f) Pow2.cbot ?_
    funext r
    exact congrArg _ (lift_ix j r)
  rw [e, Finset.fold_max_le]
  have hs := start_count A.win n c
  constructor
  · rintro ⟨-, h⟩ ρ hv
    have hr := (chain_max_le _ _ _ _ _ _).mp (h ⟨ρ.val % 16, Nat.mod_lt _ (by decide)⟩ (Finset.mem_univ _))
    have hv' := hv
    unfold Vis at hv'
    have hst : start A.win c ≤ ρ.val / 16 := by
      have := start_le A.win c
      by_cases hw : A.win = true
      · have := hv'.2 hw; omega
      · have : start A.win c = 0 := by rw [Bool.not_eq_true] at hw; rw [hw]; rfl
        omega
    have := hr ⟨ρ.val / 16, by omega⟩ hst (by show ρ.val / 16 ≤ _; omega)
    have hrow : row (n := n) ⟨ρ.val / 16, by omega⟩ ⟨ρ.val % 16, Nat.mod_lt _ (by decide)⟩ = ρ := by
      refine Fin.ext ?_
      show 16 * (ρ.val / 16) + ρ.val % 16 = ρ.val
      omega
    rw [A.masked_apply hm c _ _ _ _ _ (by show ρ.val / 16 ≤ _; omega) (fun hw => by show _ ≤ ρ.val / 16; have := hv'.2 hw; omega) hn, hrow, if_pos hv, A.t_apply, hrow] at this
    exact this
  · intro h
    refine ⟨bot_le, fun r _ => (chain_max_le _ _ _ _ _ _).mpr fun g h1 h2 => ?_⟩
    rw [A.masked_apply hm c _ _ _ _ _ (by omega) (fun hw => by rw [hw] at h1; exact h1) hn]
    split
    · rename_i hv
      rw [A.t_apply]; exact h _ hv
    · exact le_of_eq_of_le Pow2.cbot bot_le

omit hm in
theorem qrow_apply (c : Fin 2) (j : Fin 128) : A.qrow c (ix2 (0 : Fin 1) j) = A.qs c (ix4 (0 : Fin 1) (0 : Fin 1) (0 : Fin 1) j) := by
  unfold qrow
  pointwise

omit hm in
theorem m_apply (c : Fin 2) (j : Fin 128) : A.m c (ix2 (0 : Fin 1) j)
    = Ideal.liftRound Int.ceil (A.rowMax c (ix2 (0 : Fin 1) j) * A.qs c (ix4 (0 : Fin 1) (0 : Fin 1) (0 : Fin 1) j)) := by
  rw [← qrow_apply]; rfl

/-- The power of two of key `ρ` for query column `j` of tile `c`. -/
def P (ρ : Fin (32 * (n + 1))) (c : Fin 2) (j : Fin 128) : EReal :=
  if A.Vis ρ c j then
    Pow2.dec (max (A.T ρ c j * (A.qs c (ix4 (0 : Fin 1) (0 : Fin 1) (0 : Fin 1) j) * ((8388608 : ℝ) : EReal))
      + (((127 : ℝ) : EReal) - A.m c (ix2 (0 : Fin 1) j)) * ((8388608 : ℝ) : EReal)) 0)
  else 0

variable (tl : Fin 2 → Fin (2 * (n + 1)) → Vec Ideal S1x16x128 .f32)

/-- The row groups read back are the ones stored. -/
def BackOk : Prop := ∀ (c : Fin 2) (h : Fin (2 * (n + 1))), start A.win c ≤ h.val → h.val ≤ 2 * n + c.val →
  tl c h = shapeCast S1x16x128 (A.t c h) shapeCasts_S16x128_S1x16x128

variable (htl : A.BackOk tl) (hn : A.win = true → 0 < n)
include htl hn

theorem p_apply (c : Fin 2) (h : Fin (2 * (n + 1))) (r : Fin 16) (j : Fin 128) : A.p tl c h (ix2 r j) = A.P (row h r) c j := by
  unfold p
  by_cases hb : (Nat.blt (2 * n + c.val) h.val || (A.win && Nat.blt h.val c.val)) = true
  · rw [hb, cond_true]
    unfold P
    rw [if_neg]
    · exact Pow2.c0
    · rw [Bool.or_eq_true, Bool.and_eq_true, Nat.blt_eq, Nat.blt_eq] at hb
      unfold Vis row
      show ¬ (16 * h.val + r.val ≤ _ ∧ (_ → _ < 16 * h.val + r.val))
      rintro ⟨h1, h2⟩
      rcases hb with hb | ⟨hw, hb⟩
      · omega
      · have := h2 hw; omega
  · have hb' := hb
    rw [Bool.not_eq_true] at hb
    rw [hb, cond_false]
    rw [Bool.or_eq_true, Bool.and_eq_true, Nat.blt_eq, Nat.blt_eq] at hb'
    have h1 : h.val ≤ 2 * n + c.val := by by_contra h'; exact hb' (.inl (by omega))
    have h2 : A.win = true → c.val ≤ h.val := fun hw => by by_contra h'; exact hb' (.inr ⟨hw, by omega⟩)
    have hst : start A.win c ≤ h.val := by
      by_cases hw : A.win = true
      · have := h2 hw; rw [hw]; exact this
      · rw [Bool.not_eq_true] at hw; rw [hw]; exact Nat.zero_le _
    show Pow2.dec (A.masked c h (A.y c (tl c h)) (broadcast S16x128 (Scalar.ofBits .f32 0x00000000#32)) (ix2 r j)) = _
    rw [A.masked_apply hm c h _ _ r j h1 h2 hn]
    unfold P
    split
    · congr 1
      rw [← A.t_apply, ← Pow2.c23, ← Pow2.c127, ← Pow2.c0, ← qrow_apply]
      have e : shapeCast S16x128 (tl c h) shapeCasts_S1x16x128_S16x128 (ix2 r j) = A.t c h (ix2 r j) := by
        rw [htl c h hst h1]
        pointwise
      rw [← e]
      unfold y a b
      pointwise
    · exact (congrArg Pow2.dec Pow2.c0).trans Pow2.dec_zero

theorem l_apply (c : Fin 2) (j : Fin 128) : A.l tl c (ix2 (0 : Fin 1) j) = ∑ ρ, A.P ρ c j := by
  have e0 : A.l tl c (ix2 (0 : Fin 1) j) = multiReduction .add [0] S128
      (chain addf (A.p tl c) (start A.win c) (count A.win n c) (start_count_lt A.win n c))
      0x00000000#32 reduces_S16x128_S128 (.inl rfl) rfl (ix1 j) := by
    unfold l
    pointwise
  refine e0.trans ((Ideal.multiReduction_add_single _ _ _ _ _ _).trans ?_)
  have hs := start_count A.win n c
  have e1 : ∀ r : Fin 16, chain addf (A.p tl c) (start A.win c) (count A.win n c) (start_count_lt A.win n c) (reduces_S16x128_S128.lift (ix1 j) r)
      = ∑ h : Fin (2 * (n + 1)), A.P (row h r) c j := by
    intro r
    rw [lift_ix, chain_add]
    refine Finset.sum_congr rfl fun h _ => ?_
    rw [A.p_apply hm tl htl hn]
    split
    · rfl
    · rename_i hh
      unfold P
      rw [if_neg]
      unfold Vis row
      show ¬ (16 * h.val + r.val ≤ _ ∧ (_ → _ < 16 * h.val + r.val))
      rintro ⟨h1, h2⟩
      apply hh
      refine ⟨?_, by omega⟩
      by_cases hw : A.win = true
      · have := h2 hw; rw [hw]; show c.val ≤ h.val; omega
      · rw [Bool.not_eq_true] at hw; rw [hw]; exact Nat.zero_le _
  refine (Finset.sum_congr rfl fun r _ => e1 r).trans ?_
  refine (sum_groups n fun h r => A.P (row h r) c j).trans ?_
  refine Finset.sum_congr rfl fun ρ _ => ?_
  congr 1
  refine Fin.ext ?_
  show 16 * (ρ.val / 16) + ρ.val % 16 = ρ.val
  omega

theorem lse_apply (c : Fin 2) (j : Fin 128) : A.lse tl c (ix4 (0 : Fin 1) (0 : Fin 1) (0 : Fin 1) j)
    = A.m c (ix2 (0 : Fin 1) j) + Ideal.div (Ideal.log (∑ ρ, A.P ρ c j)) (Ideal.log (Ideal.ofBits .f32 0x40000000#32)) - A.ln c (ix2 (0 : Fin 1) j) := by
  rw [← A.l_apply hm tl htl hn]
  unfold lse
  pointwise

theorem pair_apply (c : Fin 2) (g : Fin (n + 1)) (r : Fin 32) (j : Fin 128) :
    A.pair tl c g (ix2 r j) = A.P ⟨32 * g.val + r.val, by have := g.isLt; have := r.isLt; omega⟩ c j := by
  have hg := g.isLt
  have hr' := r.isLt
  by_cases hr : r.val < 16
  · refine (cat0_l (A := 16) (B := 16) (C := 32) (W := 128) _ _ concatenates_S16x128_S16x128_S32x128_d0 r j hr).trans ?_
    rw [A.p_apply hm tl htl hn]
    congr 1
    refine Fin.ext ?_
    show 16 * (2 * g.val) + r.val = 32 * g.val + r.val; omega
  · refine (cat0_r (A := 16) (B := 16) (C := 32) (W := 128) _ _ concatenates_S16x128_S16x128_S32x128_d0 r j (by omega) (by omega)).trans ?_
    rw [A.p_apply hm tl htl hn]
    congr 1
    refine Fin.ext ?_
    show 16 * (2 * g.val + 1) + (r.val - 16) = 32 * g.val + r.val; omega

theorem rows_apply (c : Fin 2) (ρ : Fin (32 * (n + 1))) (j : Fin 128) : rows n (A.pair tl c) (ix2 ρ j) = A.P ρ c j := by
  have e : rows n (A.pair tl c) (ix2 ρ j) = A.pair tl c ⟨ρ.val / 32, by omega⟩ (ix2 (⟨ρ.val % 32, Nat.mod_lt _ (by decide)⟩ : Fin 32) j) := by
    cases n with
    | zero =>
      show A.pair tl c 0 (ix2 ρ j) = _
      have h0 : (⟨ρ.val / 32, by omega⟩ : Fin (0 + 1)) = 0 := Fin.ext (by have := ρ.isLt; show ρ.val / 32 = 0; omega)
      rw [h0]
      congr 1
      have := ρ.isLt
      exact congrArg (fun x => ix2 x j) (Fin.ext (show ρ.val = ρ.val % 32 by omega))
    | succ n =>
      exact concatenate_ofFn_apply (t := ⟨2, ![32 * (n + 2), 128]⟩) (s₁ := S32x128) 0 (A.pair tl c) (concatenates_rows n _) rfl 32 rfl (ix2 ρ j)
        ⟨ρ.val / 32, by omega⟩ rfl (ix2 (⟨ρ.val % 32, Nat.mod_lt _ (by decide)⟩ : Fin 32) j) rfl
        (by intro b hb; fin_cases b; exact absurd rfl hb; rfl)
  rw [e, A.pair_apply hm tl htl hn]
  congr 1
  refine Fin.ext ?_
  show 32 * (ρ.val / 32) + ρ.val % 32 = ρ.val; omega

theorem pt_apply (ρ : Fin (32 * (n + 1))) (i : Fin 256) :
    A.pt tl (ix2 ρ i) = A.P ρ ⟨i.val / 128, by omega⟩ ⟨i.val % 128, Nat.mod_lt _ (by decide)⟩ := by
  by_cases hr : i.val < 128
  · refine (cat1_l (rows n (A.pair tl 0)) (rows n (A.pair tl 1)) (concatenates_cols _) ρ i hr).trans ?_
    rw [A.rows_apply hm tl htl hn]
    congr 1
    · refine Fin.ext ?_
      show 0 = i.val / 128; omega
    · refine Fin.ext ?_
      show i.val = i.val % 128; omega
  · refine (cat1_r (rows n (A.pair tl 0)) (rows n (A.pair tl 1)) (concatenates_cols _) ρ i (by omega) (by omega)).trans ?_
    rw [A.rows_apply hm tl htl hn]
    congr 1
    · refine Fin.ext ?_
      show 1 = i.val / 128; omega
    · refine Fin.ext ?_
      show i.val - 128 = i.val % 128; omega

end Inp

/-- The padding reads the block in its rows and zero elsewhere. -/
theorem pad_apply (R : ℕ) : ∀ (lo hi : ℕ) (X : FVec Ideal ⟨2, ![R, 256]⟩ .fp8e4m3) (r : Fin (R + hi + lo)) (i : Fin 256),
    pad R lo hi X (ix2 r i) = if h : lo ≤ r.val ∧ r.val < lo + R then X (ix2 ⟨r.val - lo, by omega⟩ i) else (0 : EReal)
  | 0, 0, X, r, i => by
    rw [dif_pos ⟨Nat.zero_le _, by have := r.isLt; omega⟩]
    rfl
  | 0, hi + 1, X, r, i => by
    have hlt := r.isLt
    by_cases h : r.val < R
    · rw [dif_pos ⟨Nat.zero_le _, by omega⟩]
      exact cat0_l X _ (concatenates_pad2 _ _ _ rfl) r i h
    · rw [dif_neg (by omega)]
      exact (cat0_r X _ (concatenates_pad2 _ _ _ rfl) r i (by omega) (by omega)).trans (Ideal.ofBits_zero .fp8e4m3)
  | lo + 1, 0, X, r, i => by
    have hlt := r.isLt
    by_cases h : r.val < lo + 1
    · rw [dif_neg (by omega)]
      exact (cat0_l _ X (concatenates_pad2 _ _ _ (Nat.add_comm _ _)) r i h).trans (Ideal.ofBits_zero .fp8e4m3)
    · rw [dif_pos (by omega)]
      exact cat0_r _ X (concatenates_pad2 _ _ _ (Nat.add_comm _ _)) r i (by omega) (by omega)
  | lo + 1, hi + 1, X, r, i => by
    have hlt := r.isLt
    let z1 : FVec Ideal ⟨2, ![lo + 1, 256]⟩ .fp8e4m3 := broadcast _ (Scalar.ofBits .fp8e4m3 0x00#8)
    let z2 : FVec Ideal ⟨2, ![hi + 1, 256]⟩ .fp8e4m3 := broadcast _ (Scalar.ofBits .fp8e4m3 0x00#8)
    have key := fun k hk s₁ x₁ hx hr pre hpre => concatenate_apply_piece (t := ⟨2, ![R + (hi + 1) + (lo + 1), 256]⟩) 0
      [⟨⟨2, ![lo + 1, 256]⟩, z1⟩, ⟨⟨2, ![R, 256]⟩, X⟩, ⟨⟨2, ![hi + 1, 256]⟩, z2⟩] (concatenates_pad3 _ _ _ _ (Nat.add_comm _ _)) (ix2 r i) k hk s₁ x₁ hx hr pre hpre
    by_cases h : r.val < lo + 1
    · rw [dif_neg (by omega)]
      exact (key 0 (by show 0 < 3; decide) ⟨2, ![lo + 1, 256]⟩ z1 rfl rfl 0 rfl (ix2 (⟨r.val, h⟩ : Fin (lo + 1)) i)
        (by intro b hb; fin_cases b; exact absurd rfl hb; rfl) (by show 0 + r.val = r.val; omega)).trans (Ideal.ofBits_zero .fp8e4m3)
    · by_cases h' : r.val < lo + 1 + R
      · rw [dif_pos (by omega)]
        exact key 1 (by show 1 < 3; decide) ⟨2, ![R, 256]⟩ X rfl rfl (lo + 1) rfl (ix2 (⟨r.val - (lo + 1), by omega⟩ : Fin R) i)
          (by intro b hb; fin_cases b; exact absurd rfl hb; rfl) (by show lo + 1 + (r.val - (lo + 1)) = r.val; omega)
      · rw [dif_neg (by omega)]
        exact (key 2 (by show 2 < 3; decide) ⟨2, ![hi + 1, 256]⟩ z2 rfl rfl (lo + 1 + R) (by show lo + 1 + (R + 0) = lo + 1 + R; omega)
          (ix2 (⟨r.val - (lo + 1 + R), by omega⟩ : Fin (hi + 1)) i)
          (by intro b hb; fin_cases b; exact absurd rfl hb; rfl) (by show lo + 1 + R + (r.val - (lo + 1 + R)) = r.val; omega)).trans (Ideal.ofBits_zero .fp8e4m3)

/-- A sum over the padded rows is the sum over the block's. -/
theorem sum_pad (R lo hi : ℕ) (f : Fin (R + hi + lo) → EReal) (g : Fin R → EReal)
    (h1 : ∀ ρ : Fin R, f ⟨ρ.val + lo, by omega⟩ = g ρ) (h0 : ∀ r, ¬ (lo ≤ r.val ∧ r.val < lo + R) → f r = 0) :
    ∑ r, f r = ∑ ρ, g ρ := by
  have e : ∑ ρ, g ρ = ∑ r ∈ (Finset.univ : Finset (Fin R)).map ⟨fun ρ => (⟨ρ.val + lo, by omega⟩ : Fin (R + hi + lo)), fun a b h => Fin.ext (by have := Fin.mk.inj_iff.mp h; omega)⟩, f r := by
    rw [Finset.sum_map]
    exact Finset.sum_congr rfl fun ρ _ => (h1 ρ).symm
  rw [e]
  symm
  refine Finset.sum_subset (Finset.subset_univ _) fun r _ hr => h0 r fun hh => hr ?_
  rw [Finset.mem_map]
  exact ⟨⟨r.val - lo, by omega⟩, Finset.mem_univ _, Fin.ext (show r.val - lo + lo = r.val by omega)⟩

namespace Inp

variable {n lo hi : ℕ} (A : Inp Ideal n lo hi) (hm : A.MaskOk) (tl : Fin 2 → Fin (2 * (n + 1)) → Vec Ideal S1x16x128 .f32)
  (htl : A.BackOk tl) (hn : A.win = true → 0 < n)
include hm htl hn

theorem inv_apply (i : Fin 256) :
    concatenate S1x256 1 [⟨S1x128, A.inv tl 0⟩, ⟨S1x128, A.inv tl 1⟩] concatenates_S1x128_S1x128_S1x256_d1 (ix2 (0 : Fin 1) i)
      = Ideal.div A.v2 (∑ ρ, A.P ρ ⟨i.val / 128, by omega⟩ ⟨i.val % 128, Nat.mod_lt _ (by decide)⟩) := by
  rw [← A.l_apply hm tl htl hn]
  by_cases hr : i.val < 128
  · refine (cat1_l (A.inv tl 0) (A.inv tl 1) concatenates_S1x128_S1x128_S1x256_d1 0 i hr).trans ?_
    have e1 : (⟨i.val / 128, by omega⟩ : Fin 2) = 0 := Fin.ext (by show i.val / 128 = 0; omega)
    have e2 : (⟨i.val % 128, Nat.mod_lt _ (by decide)⟩ : Fin 128) = ⟨i.val, hr⟩ := Fin.ext (by show i.val % 128 = i.val; omega)
    rw [e1, e2]
    rfl
  · refine (cat1_r (A.inv tl 0) (A.inv tl 1) concatenates_S1x128_S1x128_S1x256_d1 0 i (by omega) (by omega)).trans ?_
    have e1 : (⟨i.val / 128, by omega⟩ : Fin 2) = 1 := Fin.ext (by show i.val / 128 = 1; omega)
    have e2 : (⟨i.val % 128, Nat.mod_lt _ (by decide)⟩ : Fin 128) = ⟨i.val - 128, by omega⟩ := Fin.ext (by show i.val % 128 = i.val - 128; omega)
    rw [e1, e2]
    rfl

/-- The block's result: the values weighted by the powers of two, times the value scale over their sum. -/
theorem out_apply (i : Fin 32) (g : Fin 8) (d : Fin 96) :
    A.out tl (ix4 (0 : Fin 1) i g d)
      = (∑ ρ : Fin (32 * (n + 1)), A.vt (ix2 d (⟨ρ.val + lo, by omega⟩ : Fin (32 * (n + 1) + hi + lo)))
          * A.P ρ ⟨(i.val * 8 + g.val) / 128, by omega⟩ ⟨(i.val * 8 + g.val) % 128, Nat.mod_lt _ (by decide)⟩)
        * Ideal.div A.v2 (∑ ρ, A.P ρ ⟨(i.val * 8 + g.val) / 128, by omega⟩ ⟨(i.val * 8 + g.val) % 128, Nat.mod_lt _ (by decide)⟩) := by
  have e0 : A.out tl (ix4 (0 : Fin 1) i g d) =
      matmul (DotDims.plain 96 (32 * (n + 1) + hi + lo) 256) none A.vt (pad _ lo hi (A.pt tl)) (constant S96x256 .f32 0x00000000#32)
          (ix2 d (⟨i.val * 8 + g.val, by omega⟩ : Fin 256))
        * concatenate S1x256 1 [⟨S1x128, A.inv tl 0⟩, ⟨S1x128, A.inv tl 1⟩] concatenates_S1x128_S1x128_S1x256_d1
          (ix2 (0 : Fin 1) (⟨i.val * 8 + g.val, by omega⟩ : Fin 256)) := by
    unfold out
    generalize concatenate S1x256 1 [⟨S1x128, A.inv tl 0⟩, ⟨S1x128, A.inv tl 1⟩] concatenates_S1x128_S1x128_S1x256_d1 = W
    generalize matmul (DotDims.plain 96 (32 * (n + 1) + hi + lo) 256) none A.vt (pad _ lo hi (A.pt tl)) (constant S96x256 .f32 0x00000000#32) = Z
    pointwise
  rw [e0, A.inv_apply hm tl htl hn]
  congr 1
  refine (Ideal.matmul_plain_apply none _ _ _ d _).trans ?_
  refine (congrArg (· + _) Pow2.c0).trans ((zero_add _).trans ?_)
  refine sum_pad (32 * (n + 1)) lo hi _ _ (fun ρ => ?_) (fun r hr => ?_)
  · refine congrArg₂ (· * ·) rfl ((pad_apply _ lo hi (A.pt tl) ⟨ρ.val + lo, by omega⟩ ⟨i.val * 8 + g.val, by omega⟩).trans ?_)
    rw [dif_pos (by constructor; show lo ≤ ρ.val + lo; omega; show ρ.val + lo < _; omega), A.pt_apply hm tl htl hn]
    congr 1
    exact Fin.ext (show ρ.val + lo - lo = ρ.val by omega)
  · refine (congrArg₂ (· * ·) rfl ((pad_apply _ lo hi (A.pt tl) r ⟨i.val * 8 + g.val, by omega⟩).trans ?_)).trans (mul_zero _)
    rw [dif_neg hr]

end Inp

end Cert.Roll
-- ==== Proof.RollBack.lean ====
/- The row groups a block reads back from the scratch are the ones it has stored there. -/
module

public import proofs.«01_k».proof.Proof.RollIdeal
public import Idealize.ShloMosaic.Lib.Pipeline.FrameBody
public import Idealize.ShloMosaic.Lib.Pipeline.ValueKit.Tiles

@[expose] public section

noncomputable section

namespace Cert.Roll

open Idealize.ShloMosaic Idealize.SL.Sem Cert.KernelIdeal Cert.KernelIdeal.Gen

theorem listDown_append {α : Type} {H : ℕ} (X : Fin H → α) (s : ℕ) (rest : List α) : ∀ (k : ℕ) (h : s + k < H),
    listDown X s rest k h = listDown X s [] k h ++ rest
  | 0, _ => rfl
  | k + 1, h => by
    show X _ :: listDown X s rest k _ = X _ :: (listDown X s [] k _ ++ rest)
    rw [listDown_append X s rest k]

theorem mem_listDown {α : Type} {H : ℕ} (X : Fin H → α) (s : ℕ) (p : α) : ∀ (k : ℕ) (h : s + k < H),
    p ∈ listDown X s [] k h ↔ ∃ g : Fin H, s ≤ g.val ∧ g.val ≤ s + k ∧ p = X g
  | 0, h => by
    show p ∈ [X ⟨s, h⟩] ↔ _
    rw [List.mem_singleton]
    constructor
    · rintro rfl; exact ⟨⟨s, h⟩, le_rfl, le_rfl, rfl⟩
    · rintro ⟨g, h1, h2, rfl⟩; exact congrArg X (Fin.ext (show g.val = s by omega))
  | k + 1, h => by
    show p ∈ X ⟨s + k + 1, h⟩ :: listDown X s [] k _ ↔ _
    rw [List.mem_cons, mem_listDown X s p k]
    constructor
    · rintro (rfl | ⟨g, h1, h2, rfl⟩)
      · exact ⟨⟨s + k + 1, h⟩, by show s ≤ s + k + 1; omega, by show s + k + 1 ≤ s + (k + 1); omega, rfl⟩
      · exact ⟨g, h1, by omega, rfl⟩
    · rintro ⟨g, h1, h2, rfl⟩
      by_cases hg : g.val = s + k + 1
      · exact .inl (congrArg X (Fin.ext hg))
      · exact .inr ⟨g, h1, by omega, rfl⟩

variable {Val : EltTy → Type} {S : Shape} {e : EltTy}

/-- Where the last writes cover an index and all of them have one value there, that is the value, whatever came before. -/
theorem canon_append_eq [∀ e, Nonempty (Val e)] (R : List (View.Piece Val S e)) (y : S.Idx) (v : Val e) :
    ∀ L : List (View.Piece Val S e), (∃ p ∈ L, y ∈ p.1.set) → View.AllAt L y v → View.canon (L ++ R) y = v
  | [], hc, _ => by obtain ⟨p, hp, _⟩ := hc; exact absurd hp List.not_mem_nil
  | p :: L, hc, h => by
    show View.canon (p :: (L ++ R)) y = v
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_append_eq R y v L ?_ fun q hq => h q (List.mem_cons_of_mem _ hq)
      obtain ⟨q, hq, hy⟩ := hc
      rcases List.mem_cons.mp hq with rfl | hq
      · exact absurd hy hm
      · exact ⟨q, hq, hy⟩

namespace Inp

variable {n lo hi : ℕ} (A : Inp Ideal n lo hi)

theorem mem_tPieces (hn : n ≤ 20) (slot : Fin 2) (p : View.Piece (Elt Ideal) S2x672x256 .f32) :
    p ∈ A.tPieces hn slot [] ↔ ∃ (c : Fin 2) (h : Fin (2 * (n + 1))), start A.win c ≤ h.val ∧ h.val ≤ 2 * n + c.val ∧ p = A.tPiece hn slot c h := by
  unfold tPieces
  rw [listDown_append, List.mem_append, mem_listDown, mem_listDown, start_count, start_count]
  constructor
  · rintro (⟨g, h1, h2, rfl⟩ | ⟨g, h1, h2, rfl⟩)
    · exact ⟨1, g, h1, h2, rfl⟩
    · exact ⟨0, g, h1, h2, rfl⟩
  · rintro ⟨c, g, h1, h2, rfl⟩
    fin_cases c
    · exact .inr ⟨g, h1, h2, rfl⟩
    · exact .inl ⟨g, h1, h2, rfl⟩

theorem tPieces_append (hn : n ≤ 20) (slot : Fin 2) (rest : List (View.Piece (Elt Ideal) S2x672x256 .f32)) :
    A.tPieces hn slot rest = A.tPieces hn slot [] ++ rest := by
  unfold tPieces
  rw [listDown_append, listDown_append (A.tPiece hn slot 0), listDown_append (A.tPiece hn slot 1) _ (listDown _ _ [] _ _), List.append_assoc]

theorem back_ok (hn : n ≤ 20) (slot : Fin 2) (w : View sig .tc .vmem S2x672x256 .f32) (rest : List (View.Piece (Elt Ideal) S2x672x256 .f32)) :
    A.BackOk (A.back hn slot w rest) := by
  intro c h h1 h2
  funext x
  have hmem : A.tPiece hn slot c h ∈ A.tPieces hn slot [] := (A.mem_tPieces hn slot _).mpr ⟨c, h, h1, h2, rfl⟩
  have hin : (Rect.unit (s := S2x672x256) ![slot.val, 16 * h.val, 128 * c.val] S1x16x128.size (inb_tile n hn slot c h)).idx x
      ∈ (A.tPiece hn slot c h).1.set := by
    rw [← Rect.map_emb_univ]
    exact Finset.mem_map_of_mem _ (Finset.mem_univ x)
  have hc : ∃ p ∈ A.tPieces hn slot [], (Rect.unit (s := S2x672x256) ![slot.val, 16 * h.val, 128 * c.val] S1x16x128.size (inb_tile n hn slot c h)).idx x ∈ p.1.set :=
    ⟨_, hmem, hin⟩
  refine (View.read_writes_apply_eq_canon w w.junk _ (A.tPieces hn slot rest) ?_).trans ?_
  · rw [tPieces_append]
    obtain ⟨p, hp, hy⟩ := hc
    exact ⟨p, List.mem_append_left _ hp, hy⟩
  · rw [tPieces_append]
    refine canon_append_eq rest _ _ _ hc ?_
    intro p hp x' hx'
    obtain ⟨c', h', -, -, rfl⟩ := (A.mem_tPieces hn slot p).mp hp
    have e1 := congrArg (fun y : S2x672x256.Idx => (y 1).val) hx'
    have e2 := congrArg (fun y : S2x672x256.Idx => (y 2).val) hx'
    have e1 : 16 * h'.val + 1 * (x' 1).val = 16 * h.val + 1 * (x 1).val := e1
    have e2 : 128 * c'.val + 1 * (x' 2).val = 128 * c.val + 1 * (x 2).val := e2
    have l1 : (x' 1).val < 16 := (x' 1).isLt
    have l2 : (x' 2).val < 128 := (x' 2).isLt
    have l3 : (x 1).val < 16 := (x 1).isLt
    have l4 : (x 2).val < 128 := (x 2).isLt
    obtain rfl : h' = h := Fin.ext (by omega)
    obtain rfl : c' = c := Fin.ext (by omega)
    have hxx : x' = x := by
      funext a
      refine Fin.ext ?_
      fin_cases a
      · show (x' 0).val = (x 0).val
        have a1 : (x' 0).val < 1 := (x' 0).isLt
        have a2 : (x 0).val < 1 := (x 0).isLt
        omega
      · show (x' 1).val = (x 1).val; omega
      · show (x' 2).val = (x 2).val; omega
    subst hxx
    rfl

end Inp

end Cert.Roll
-- ==== Proof.Spec.lean ====
/- What both programs compute for one batch entry and one key head, written over all the keys. -/
module

public import proofs.«01_k».proof.Proof.Pow2

@[expose] public section

noncomputable section

namespace Cert

open Idealize.ShloMosaic

/-- The inputs of one batch entry and one key head: the codes and the scales. -/
structure Head where
  q : Fin 2304 → Fin 8 → Fin 96 → EReal
  k : Fin 2304 → Fin 96 → EReal
  v : Fin 2304 → Fin 96 → EReal
  qs : Fin 2304 → Fin 8 → EReal
  ks : Fin 2304 → EReal
  vs : EReal

namespace Head

variable (H : Head)

/-- The softmax scale in base two, as both programs spell it. -/
def scale : EReal := Ideal.ofBits .f32 0x3DD105EC#32

/-- Query position `i` sees key `x`. -/
def Vis (i x : Fin 2304) : Prop := x.val ≤ i.val ∧ i.val < x.val + 640

instance (i x : Fin 2304) : Decidable (Vis i x) := by unfold Vis; infer_instance

/-- The score without the query's scale. -/
def T (i : Fin 2304) (g : Fin 8) (x : Fin 2304) : EReal := (∑ d, H.k x d * H.q i g d) * (H.ks x * scale)

/-- The largest visible one. -/
def M (i : Fin 2304) (g : Fin 8) : EReal := (Finset.univ.filter (Vis i)).sup (H.T i g)

def m (i : Fin 2304) (g : Fin 8) : EReal := Ideal.liftRound Int.ceil (H.M i g * H.qs i g)

/-- The power of two of a key. -/
def P (i : Fin 2304) (g : Fin 8) (x : Fin 2304) : EReal :=
  if Vis i x then Pow2.dec (max (H.T i g x * (H.qs i g * ((8388608 : ℝ) : EReal)) + (((127 : ℝ) : EReal) - H.m i g) * ((8388608 : ℝ) : EReal)) 0) else 0

def L (i : Fin 2304) (g : Fin 8) : EReal := ∑ x, H.P i g x

/-- The result. -/
def out (i : Fin 2304) (g : Fin 8) (d : Fin 96) : EReal := (∑ x, H.v x d * H.P i g x) * Ideal.div H.vs (H.L i g)

def log2e : EReal := Ideal.log (Ideal.ofBits .f32 0x40000000#32)

/-- The logarithm of the sum over the number of visible keys. -/
def lse (i : Fin 2304) (g : Fin 8) : EReal :=
  H.m i g + Ideal.div (Ideal.log (H.L i g)) log2e - Ideal.div (Ideal.log (((min (i.val + 1) 640 : ℕ) : ℝ) : EReal)) log2e

/-! ## The same with the query's scale inside -/

theorem vis_self (i : Fin 2304) : Vis i i := ⟨le_rfl, by omega⟩

theorem M_mul (i : Fin 2304) (g : Fin 8) (hq : 0 ≤ H.qs i g) (x : EReal) :
    H.M i g * H.qs i g ≤ x ↔ ∀ y, Vis i y → H.T i g y * H.qs i g ≤ x := by
  constructor
  · intro h y hy
    refine le_trans ?_ h
    exact mul_le_mul_of_nonneg_right (Finset.le_sup (f := H.T i g) (Finset.mem_filter.mpr ⟨Finset.mem_univ y, hy⟩)) hq
  · intro h
    obtain ⟨y, hy, e⟩ := Finset.exists_mem_eq_sup (Finset.univ.filter (Vis i)) ⟨i, Finset.mem_filter.mpr ⟨Finset.mem_univ _, vis_self i⟩⟩ (H.T i g)
    unfold M
    rw [e]
    exact h y (Finset.mem_filter.mp hy).2

theorem P_eq (i : Fin 2304) (g : Fin 8) (hq : 0 ≤ H.qs i g) (x : Fin 2304) :
    H.P i g x = if Vis i x then Pow2.rp (H.T i g x * H.qs i g - H.m i g) else 0 := by
  unfold P
  split
  · rename_i h
    have := Pow2.dec_eq_rp (H.T i g x * H.qs i g) (H.M i g * H.qs i g) (((H.M_mul i g hq _).mp le_rfl) x h)
    rw [← mul_assoc]
    exact this
  · rfl

/-! ## A run of keys -/

/-- A sum over all keys of something that vanishes off a run of keys is the sum over the run. -/
theorem sum_window (R base : ℕ) (hb : base + R ≤ 2304) (f : Fin 2304 → EReal) (h0 : ∀ x, ¬ (base ≤ x.val ∧ x.val < base + R) → f x = 0) :
    ∑ x, f x = ∑ ρ : Fin R, f ⟨base + ρ.val, by omega⟩ := by
  have e : ∑ ρ : Fin R, f ⟨base + ρ.val, by omega⟩ = ∑ x ∈ (Finset.univ : Finset (Fin R)).map
      ⟨fun ρ => (⟨base + ρ.val, by omega⟩ : Fin 2304), fun a b h => Fin.ext (by have := Fin.mk.inj_iff.mp h; omega)⟩, f x := by
    rw [Finset.sum_map]; rfl
  rw [e]
  symm
  refine Finset.sum_subset (Finset.subset_univ _) fun x _ hx => h0 x fun hh => hx ?_
  rw [Finset.mem_map]
  exact ⟨⟨x.val - base, by omega⟩, Finset.mem_univ _, Fin.ext (show base + (x.val - base) = x.val by omega)⟩

end Head

end Cert
-- ==== Proof.RollSpec.lean ====
/- One block computes the two results at its query positions. -/
module

public import proofs.«01_k».proof.Proof.RollBack
public import proofs.«01_k».proof.Proof.Spec

@[expose] public section

noncomputable section

namespace Cert.Roll

open Idealize.ShloMosaic Idealize.SL.Sem Cert.KernelIdeal Cert.KernelIdeal.Gen

namespace Inp

variable {n lo hi : ℕ} (A : Inp Ideal n lo hi) (H : Head) (B : ℕ)

/-- The query position of column `j` of tile `c` of block `B`. -/
def qi (hB : B < 72) (c : Fin 2) (j : Fin 128) : Fin 2304 := ⟨32 * B + (16 * c.val + j.val / 8), by omega⟩
def gi (j : Fin 128) : Fin 8 := ⟨j.val % 8, Nat.mod_lt _ (by decide)⟩

/-- `A` reads block `B` of the inputs `H`. -/
structure Reads (hB : B < 72) : Prop where
  hn : n ≤ B
  win : (A.win = true ∧ n = 20) ∨ (A.win = false ∧ n = B ∧ n < 20)
  mask : A.MaskOk
  v2 : A.v2 = H.vs
  kb : ∀ (ρ : Fin (32 * (n + 1))) d, A.kb (ix2 ρ d) = H.k ⟨32 * (B - n) + ρ.val, by omega⟩ d
  q : ∀ (i : Fin 32) (g : Fin 8) (d : Fin 96), A.q (ix4 (0 : Fin 1) i g d) = H.q ⟨32 * B + i.val, by omega⟩ g d
  ks : ∀ (h : Fin (2 * (n + 1))) (r : Fin 16) (j : Fin 128), A.ks h (ix2 r j) = H.ks ⟨32 * (B - n) + (16 * h.val + r.val), by omega⟩ * Head.scale
  qs : ∀ (c : Fin 2) (j : Fin 128), A.qs c (ix4 (0 : Fin 1) (0 : Fin 1) (0 : Fin 1) j) = H.qs (qi B hB c j) (gi j)
  ln : ∀ (c : Fin 2) (j : Fin 128), A.ln c (ix2 (0 : Fin 1) j)
    = Ideal.div (Ideal.log (((min ((qi B hB c j).val + 1) 640 : ℕ) : ℝ) : EReal)) Head.log2e
  vt : ∀ (ρ : Fin (32 * (n + 1))) (d : Fin 96), A.vt (ix2 d (⟨ρ.val + lo, by omega⟩ : Fin (32 * (n + 1) + hi + lo))) = H.v ⟨32 * (B - n) + ρ.val, by omega⟩ d

variable {A H B} {hB : B < 72} (R : A.Reads H B hB)
include R

theorem win_pos (hw : A.win = true) : 0 < n := by
  rcases R.win with ⟨-, h⟩ | ⟨h, -⟩
  · omega
  · rw [hw] at h; exact absurd h (by decide)

theorem vis_iff (ρ : Fin (32 * (n + 1))) (c : Fin 2) (j : Fin 128) :
    A.Vis ρ c j ↔ Head.Vis (qi B hB c j) ⟨32 * (B - n) + ρ.val, by have := R.hn; omega⟩ := by
  unfold Vis Head.Vis qi
  show _ ↔ 32 * (B - n) + ρ.val ≤ 32 * B + (16 * c.val + j.val / 8) ∧ 32 * B + (16 * c.val + j.val / 8) < 32 * (B - n) + ρ.val + 640
  have := R.hn
  rcases R.win with ⟨hw, h⟩ | ⟨hw, h, h'⟩
  · rw [hw]
    constructor
    · rintro ⟨h1, h2⟩; have := h2 rfl; omega
    · rintro ⟨h1, h2⟩; exact ⟨by omega, fun _ => by omega⟩
  · rw [hw]
    constructor
    · rintro ⟨h1, h2⟩; omega
    · rintro ⟨h1, h2⟩; exact ⟨by omega, fun h => absurd h (by decide)⟩

theorem vis_range (c : Fin 2) (j : Fin 128) (x : Fin 2304) (h : Head.Vis (qi B hB c j) x) :
    32 * (B - n) ≤ x.val ∧ x.val < 32 * (B - n) + 32 * (n + 1) := by
  unfold Head.Vis qi at h
  have h : x.val ≤ 32 * B + (16 * c.val + j.val / 8) ∧ 32 * B + (16 * c.val + j.val / 8) < x.val + 640 := h
  have := R.hn
  rcases R.win with ⟨hw, h⟩ | ⟨hw, h, h'⟩ <;> omega

theorem T_eq (ρ : Fin (32 * (n + 1))) (c : Fin 2) (j : Fin 128) :
    A.T ρ c j = H.T (qi B hB c j) (gi j) ⟨32 * (B - n) + ρ.val, by have := R.hn; omega⟩ := by
  unfold T Head.T
  rw [R.ks]
  congr 1
  · refine Finset.sum_congr rfl fun d _ => ?_
    rw [R.kb, R.q]
    rfl
  · congr 2
    refine Fin.ext ?_
    show 32 * (B - n) + (16 * (ρ.val / 16) + ρ.val % 16) = 32 * (B - n) + ρ.val
    omega

theorem rowMax_eq (c : Fin 2) (j : Fin 128) : A.rowMax c (ix2 (0 : Fin 1) j) = H.M (qi B hB c j) (gi j) := by
  refine eq_of_forall_ge_iff fun x => ?_
  rw [A.rowMax_le R.mask (win_pos R)]
  unfold Head.M
  rw [Finset.sup_le_iff]
  constructor
  · intro h y hy
    have hv := (Finset.mem_filter.mp hy).2
    obtain ⟨h1, h2⟩ := vis_range R c j y hv
    have e : (⟨32 * (B - n) + (y.val - 32 * (B - n)), by have := R.hn; omega⟩ : Fin 2304) = y := Fin.ext (by show 32 * (B - n) + (y.val - 32 * (B - n)) = y.val; omega)
    have := h ⟨y.val - 32 * (B - n), by omega⟩ ((vis_iff R _ c j).mpr (by rw [e]; exact hv))
    rw [T_eq R, e] at this
    exact this
  · intro h ρ hv
    rw [T_eq R]
    exact h _ (Finset.mem_filter.mpr ⟨Finset.mem_univ _, (vis_iff R ρ c j).mp hv⟩)

theorem m_eq (c : Fin 2) (j : Fin 128) : A.m c (ix2 (0 : Fin 1) j) = H.m (qi B hB c j) (gi j) := by
  rw [m_apply, rowMax_eq R, R.qs]
  rfl

theorem P_eq (ρ : Fin (32 * (n + 1))) (c : Fin 2) (j : Fin 128) :
    A.P ρ c j = H.P (qi B hB c j) (gi j) ⟨32 * (B - n) + ρ.val, by have := R.hn; omega⟩ := by
  unfold P Head.P
  rw [m_eq R, T_eq R, R.qs]
  exact if_congr (vis_iff R ρ c j) rfl rfl

theorem P_zero (c : Fin 2) (j : Fin 128) (x : Fin 2304) (h : ¬ (32 * (B - n) ≤ x.val ∧ x.val < 32 * (B - n) + 32 * (n + 1))) :
    H.P (qi B hB c j) (gi j) x = 0 := by
  unfold Head.P
  rw [if_neg fun hv => h (vis_range R c j x hv)]

theorem L_eq (c : Fin 2) (j : Fin 128) : ∑ ρ, A.P ρ c j = H.L (qi B hB c j) (gi j) := by
  unfold Head.L
  rw [Head.sum_window (32 * (n + 1)) (32 * (B - n)) (by have := R.hn; omega) _ (P_zero R c j)]
  exact Finset.sum_congr rfl fun ρ _ => P_eq R ρ c j

variable (tl : Fin 2 → Fin (2 * (n + 1)) → Vec Ideal S1x16x128 .f32) (htl : A.BackOk tl)
include htl

theorem lse_eq (c : Fin 2) (j : Fin 128) : A.lse tl c (ix4 (0 : Fin 1) (0 : Fin 1) (0 : Fin 1) j) = H.lse (qi B hB c j) (gi j) := by
  rw [A.lse_apply R.mask tl htl (win_pos R), m_eq R, L_eq R, R.ln]
  rfl

theorem out_eq (i : Fin 32) (g : Fin 8) (d : Fin 96) : A.out tl (ix4 (0 : Fin 1) i g d) = H.out ⟨32 * B + i.val, by omega⟩ g d := by
  have e1 : qi B hB ⟨(i.val * 8 + g.val) / 128, by omega⟩ ⟨(i.val * 8 + g.val) % 128, Nat.mod_lt _ (by decide)⟩ = ⟨32 * B + i.val, by omega⟩ := by
    refine Fin.ext ?_
    show 32 * B + (16 * ((i.val * 8 + g.val) / 128) + (i.val * 8 + g.val) % 128 / 8) = 32 * B + i.val
    omega
  have e2 : gi ⟨(i.val * 8 + g.val) % 128, Nat.mod_lt _ (by decide)⟩ = g := by
    refine Fin.ext ?_
    show (i.val * 8 + g.val) % 128 % 8 = g.val
    omega
  rw [A.out_apply R.mask tl htl (win_pos R), L_eq R, e1, e2, R.v2]
  unfold Head.out
  congr 1
  rw [Head.sum_window (32 * (n + 1)) (32 * (B - n)) (by have := R.hn; omega) _ (fun x hx => by
    have := P_zero R ⟨(i.val * 8 + g.val) / 128, by omega⟩ ⟨(i.val * 8 + g.val) % 128, Nat.mod_lt _ (by decide)⟩ x hx
    rw [e1, e2] at this
    rw [this, mul_zero])]
  refine Finset.sum_congr rfl fun ρ _ => ?_
  rw [R.vt, P_eq R, e1, e2]

end Inp

end Cert.Roll
-- ==== Proof.Words.lean ====
/- The whole numbers both programs count positions in. -/
module

public import Idealize.ShloMosaic.Lib.WordArith
public import Idealize.ShloMosaic.Lib.Pointwise

@[expose] public section

namespace Cert.Words

open Idealize.ShloMosaic Idealize.ShloMosaic.WordArith

theorem corner8 (x : BitVec 32) : ¬ IntOp.SDivCorner x 8#32 := by
  rintro (h | ⟨-, h⟩)
  · exact absurd h (by decide)
  · exact absurd h (by decide)

theorem msb_small (x : ℕ) (h : x < 2 ^ 31) : (BitVec.ofNat 32 x).msb = false := by
  rw [BitVec.msb_eq_false_iff_two_mul_lt, BitVec.toNat_ofNat, Nat.mod_eq_of_lt (by omega)]
  omega

theorem div8 (u : ArithUnit) (x : ℕ) (h : x < 2 ^ 31) : IntOp.divsi u (BitVec.ofNat 32 x) 8#32 = BitVec.ofNat 32 (x / 8) := by
  unfold IntOp.divsi
  rw [if_neg (corner8 _), BitVec.sdiv_eq, msb_small x h, show (8#32 : BitVec 32).msb = false by decide]
  apply BitVec.eq_of_toNat_eq
  show (BitVec.ofNat 32 x / 8#32).toNat = _
  rw [BitVec.toNat_udiv, BitVec.toNat_ofNat, BitVec.toNat_ofNat, BitVec.toNat_ofNat, Nat.mod_eq_of_lt (by omega), Nat.mod_eq_of_lt (by omega), Nat.mod_eq_of_lt (by omega)]

/-- Division by eight rounded down, as lowered: the quotient, less one when the signs differ and the remainder is not zero. -/
theorem floordiv8 (u v : ArithUnit) (x : ℕ) (h : x < 2 ^ 31) :
    Scalar.select (IntOp.andi (IntOp.cmpi .ne (IntOp.subi ((IntOp.cmpi .sgt (BitVec.ofNat 32 x) 0#32).setWidth 32)
          ((IntOp.cmpi .slt (BitVec.ofNat 32 x) 0#32).setWidth 32)) 1#32)
        (IntOp.cmpi .ne (IntOp.remsi v (BitVec.ofNat 32 x) 8#32) 0#32))
      (IntOp.subi (IntOp.divsi u (BitVec.ofNat 32 x) 8#32) 1#32) (IntOp.divsi u (BitVec.ofNat 32 x) 8#32) = BitVec.ofNat 32 (x / 8) := by
  rw [div8 u x h]
  by_cases h0 : x = 0
  · subst h0
    unfold IntOp.remsi
    rw [if_neg (corner8 _)]
    decide
  · have e1 : IntOp.cmpi .sgt (BitVec.ofNat 32 x) 0#32 = 1#1 := by
      unfold IntOp.cmpi
      rw [ofBool_eq_one_iff]
      show BitVec.slt 0#32 (BitVec.ofNat 32 x) = true
      rw [BitVec.slt_eq_decide, decide_eq_true_eq, toInt_ofNat_small x h]
      show (0 : ℤ) < x
      omega
    have e2 : IntOp.cmpi .slt (BitVec.ofNat 32 x) 0#32 = 0#1 := by
      unfold IntOp.cmpi
      show BitVec.ofBool _ = BitVec.ofBool false
      congr 1
      show BitVec.slt (BitVec.ofNat 32 x) 0#32 = false
      rw [BitVec.slt_eq_decide, decide_eq_false_iff_not, toInt_ofNat_small x h]
      show ¬ (x : ℤ) < 0
      omega
    rw [e1, e2]
    have e3 : ∀ c : BitVec 1, IntOp.andi (IntOp.cmpi .ne (IntOp.subi ((1#1 : BitVec 1).setWidth 32) ((0#1 : BitVec 1).setWidth 32)) 1#32) c = 0#1 := by decide
    rw [e3]
    rfl

theorem toInt_nat (x : ℕ) (h : x < 2 ^ 31) : (BitVec.ofNat 32 x).toInt = x := toInt_ofNat_small x h

/-- The mask: a key not after the query, and less than 640 before it. -/
theorem mask_iff (i x : ℕ) (hi : i < 2304) (hx : x < 2304) :
    IntOp.andi (IntOp.cmpi .sle (BitVec.ofNat 32 x) (BitVec.ofNat 32 i))
      (IntOp.cmpi .sgt (BitVec.ofNat 32 x) (IntOp.subi (BitVec.ofNat 32 i) 640#32)) = 1#1 ↔ x ≤ i ∧ i < x + 640 := by
  unfold IntOp.cmpi
  rw [andi_ofBool, ofBool_eq_one_iff, Bool.and_eq_true]
  have e := toInt_subi_of_nonneg (BitVec.ofNat 32 i) 640#32 (by rw [toInt_nat i (by omega)]; omega) (by decide)
  rw [toInt_nat i (by omega)] at e
  show BitVec.sle _ _ = true ∧ BitVec.slt _ _ = true ↔ _
  rw [BitVec.sle_eq_decide, BitVec.slt_eq_decide, decide_eq_true_eq, decide_eq_true_eq, e, toInt_nat i (by omega), toInt_nat x (by omega),
    show (640#32 : BitVec 32).toInt = 640 by decide]
  omega

/-- The number of keys a query sees. -/
theorem count (i : ℕ) (hi : i < 2304) :
    (IntOp.minsi (IntOp.addi (BitVec.ofNat 32 i) 1#32) 640#32).toInt = ((min (i + 1) 640 : ℕ) : ℤ) := by
  have e : IntOp.addi (BitVec.ofNat 32 i) 1#32 = BitVec.ofNat 32 (i + 1) := by
    show BitVec.ofNat 32 i + BitVec.ofNat 32 1 = _
    rw [← BitVec.ofNat_add]
  rw [e]
  have h1 : (BitVec.ofNat 32 (i + 1)).toNat = i + 1 := toNat_ofNat_of_lt _ (by omega)
  have h := toNat_minsi_of_lt (BitVec.ofNat 32 (i + 1)) 640#32 (by omega) (by decide)
  rw [h1, show (640#32 : BitVec 32).toNat = 640 by decide] at h
  rw [BitVec.toInt_eq_toNat_of_lt (by omega), h]

end Cert.Words
-- ==== Proof.Reads.lean ====
/- Every block of the kernel body, before the loop and in it, reads its query positions' keys, values and scales. -/
module

public import proofs.«01_k».proof.Proof.BodyPieces
public import proofs.«01_k».proof.Proof.RollSpec
public import proofs.«01_k».proof.Proof.Words
public import Idealize.ShloMosaic.Lib.WholeRead
public import Idealize.ShloMosaic.Lib.Pipeline.Value
public import Idealize.ShloMosaic.Lib.Pointwise

@[expose] public section

noncomputable section

namespace Cert.Roll

open Idealize.ShloMosaic Idealize.SL.Sem Cert.KernelIdeal Cert.KernelIdeal.Gen

/-! ## The constants of the body -/

theorem lane_apply (j : Fin 128) : k0_pay1389 (ix2 (0 : Fin 1) j) = BitVec.ofNat 32 (j.val / 8) := by
  refine (?_ : _ = _).trans (Words.floordiv8 .vector .vector j.val (by omega))
  have e : iota .tc S1x128 32 [1] iota_S1x128_d1_w32 (ix2 (0 : Fin 1) j) = BitVec.ofNat 32 j.val := iota_single_apply _ _ _ _ _ _
  rw [← e]
  rfl

theorem mask_apply (r : Fin 16) (j : Fin 128) : k0_pay1386 (ix2 r j) = 1#1 ↔ r.val ≤ j.val / 8 := by
  have e1 : iota .tc S16x128 32 [1] iota_S16x128_d1_w32 (ix2 r j) = BitVec.ofNat 32 j.val := iota_single_apply _ _ _ _ _ _
  have e0 : iota .tc S16x128 32 [0] iota_S16x128_d0_w32 (ix2 r j) = BitVec.ofNat 32 r.val := iota_single_apply _ _ _ _ _ _
  have e : k0_pay1386 (ix2 r j) = IntOp.cmpi .sle (BitVec.ofNat 32 r.val) (BitVec.ofNat 32 (j.val / 8)) := by
    rw [← Words.floordiv8 .vector .vector j.val (by omega), ← e1, ← e0]
    rfl
  rw [e]
  unfold IntOp.cmpi
  rw [WordArith.ofBool_eq_one_iff]
  show BitVec.sle _ _ = true ↔ _
  rw [BitVec.sle_iff_toInt_le, Words.toInt_nat _ (by omega), Words.toInt_nat _ (by omega)]
  omega

theorem c640 : Ideal.ofBits .f32 0x44200000#32 = ((640 : ℝ) : EReal) := by
  simp only [Ideal.ofBits, Ideal.ieee]
  norm_num [BitVec.extractLsb', Nat.shiftRight_eq_div_pow]

theorem off2_eq : ∀ (k : Fin k0_t1_loop.trips) (u : Fin 4) a, k0_off2 k (BitVec.ofNat 32 (32 * u.val)) a = (![0, 0, 128 * k.val + 32 * u.val, 0] : Fin 4 → ℕ) a := by
  decide +kernel
theorem off3_eq : ∀ (k : Fin k0_t1_loop.trips) (u : Fin 4) a, k0_off3 k (BitVec.ofNat 32 (32 * u.val)) a = (![0, 640 + 128 * k.val + 32 * u.val, 0, 0] : Fin 4 → ℕ) a := by
  decide +kernel
theorem off4_eq : ∀ (k : Fin k0_t1_loop.trips) (u : Fin 4) (h : Fin 42) a, k0_off4 k (BitVec.ofNat 32 (32 * u.val)) (BitVec.ofNat 32 (16 * h.val)) a
    = (![128 * k.val + 32 * u.val + 16 * h.val, 0] : Fin 2 → ℕ) a := by
  decide +kernel
theorem off5_eq : ∀ (k : Fin k0_t1_loop.trips) (u : Fin 4) (c : Fin 2) a, k0_off5 k (BitVec.ofNat 32 u.val) (BitVec.ofNat 32 c.val) a
    = (![0, 0, 40 + 8 * k.val + 2 * u.val + c.val, 0] : Fin 4 → ℕ) a := by
  decide +kernel
theorem off6_eq : ∀ (k : Fin k0_t1_loop.trips) a, k0_off6 k a = (![0, 0, 0, 128 * k.val] : Fin 4 → ℕ) a := by
  decide +kernel
theorem trips_le (k : Fin k0_t1_loop.trips) : k.val < 13 := lt_of_lt_of_le k.isLt k0_t1_abs.2.1

/-! ## The inputs of one grid point -/

/-- The inputs of one batch entry and one key head, in the blocks a grid point is handed. -/
def blockHead (vs : EReal) (ks : Fin 2304 → EReal) (x1 : Vec Ideal S1x2304x8x96 .fp8e4m3) (x2 : Vec Ideal S1x1x2304x96 .fp8e4m3)
    (x3 : Vec Ideal S1x1x96x2304 .fp8e4m3) (x5 : Vec Ideal S1x1x144x128 .f32) : Head where
  q p g d := x1 (ix4 (0 : Fin 1) p g d)
  k p d := x2 (ix4 (0 : Fin 1) (0 : Fin 1) p d)
  v p d := x3 (ix4 (0 : Fin 1) (0 : Fin 1) d p)
  qs p g := x5 (ix4 (0 : Fin 1) (0 : Fin 1) (⟨p.val / 16, by omega⟩ : Fin 144) (⟨p.val % 16 * 8 + g.val, by omega⟩ : Fin 128))
  ks := ks
  vs := vs

section
variable (arg3 : Memref sig .tc .vmem S1x2304x8x96 .fp8e4m3) (harg3 : arg3.IsWhole) (arg4 : Memref sig .tc .vmem S1x1x2304x96 .fp8e4m3) (harg4 : arg4.IsWhole)
  (arg5 : Memref sig .tc .vmem S1x1x96x2304 .fp8e4m3) (harg5 : arg5.IsWhole) (arg7 : Memref sig .tc .vmem S1x1x144x128 .f32) (harg7 : arg7.IsWhole)
  (arg10 : Memref sig .tc .vmem S2304x128 .f32)
  (v2 : EReal) (ks : Fin 2304 → EReal) (x1 : Vec Ideal S1x2304x8x96 .fp8e4m3) (x2 : Vec Ideal S1x1x2304x96 .fp8e4m3) (x3 : Vec Ideal S1x1x96x2304 .fp8e4m3) (x5 : Vec Ideal S1x1x144x128 .f32)
  (L : List (View.Piece (Elt Ideal) S2304x128 .f32)) (hL : ∀ (r : Fin 2304) (j : Fin 128), View.canon L (ix2 r j) = ks r * Head.scale)
include hL

theorem early_reads (n : Fin 20) :
    (earlyInp (F := Ideal) arg3 arg4 arg5 arg7 arg10 v2 k0_pay1386 (harg3.unread x1) (harg4.unread x2) (harg5.unread x3) (harg7.unread x5) L n).Reads
      (blockHead v2 ks x1 x2 x3 x5) n.val (by omega) where
  hn := le_rfl
  win := .inr ⟨rfl, rfl, n.isLt⟩
  mask := mask_apply
  v2 := rfl
  kb := by
    intro ρ d
    simp only [earlyInp]
    refine (shapeCast_apply _ _ _ (ix4 (0 : Fin 1) (0 : Fin 1) ρ d) ?_).trans ?_
    · rw [Shape.rowMajor_val_four, Shape.rowMajor_val_two]
      show ((0 * 1 + 0) * (32 * (n.val + 1)) + ρ.val) * 96 + d.val = ρ.val * 96 + d.val
      omega
    refine (harg4.readAt_unread x2 _ _).trans (congrArg x2 ?_)
    funext a
    refine Fin.ext ((Rect.idx_unit_val _ _ _ _ _).trans ?_)
    fin_cases a
    · rfl
    · rfl
    · show 0 + ρ.val = 32 * (n.val - n.val) + ρ.val; omega
    · show 0 + d.val = d.val; omega
  q := by
    intro i g d
    refine (harg3.readAt_unread x1 _ _).trans (congrArg x1 ?_)
    funext a
    refine Fin.ext ((Rect.idx_unit_val _ _ _ _ _).trans ?_)
    fin_cases a
    · rfl
    · show 32 * n.val + i.val = 32 * n.val + i.val; rfl
    · show 0 + g.val = g.val; omega
    · show 0 + d.val = d.val; omega
  ks := by
    intro h r j
    simp only [earlyInp, View.readCov_eq_canon']
    refine (congrArg (View.canon L) ?_).trans (hL _ j)
    funext a
    refine Fin.ext ((Rect.idx_unit_val _ _ _ _ _).trans ?_)
    fin_cases a
    · show 16 * h.val + r.val = 32 * (n.val - n.val) + (16 * h.val + r.val); omega
    · show 0 + j.val = j.val; omega
  qs := by
    intro c j
    refine (harg7.readAt_unread x5 _ _).trans (congrArg x5 ?_)
    funext a
    refine Fin.ext ((Rect.idx_unit_val _ _ _ _ _).trans ?_)
    fin_cases a
    · rfl
    · rfl
    · show 2 * n.val + c.val + 0 = (32 * n.val + (16 * c.val + j.val / 8)) / 16; omega
    · show 0 + j.val = (32 * n.val + (16 * c.val + j.val / 8)) % 16 * 8 + j.val % 8; omega
  ln := by
    intro c j
    have e : ((IntOp.addi (BitVec.ofNat 32 (j.val / 8)) (BitVec.ofNat 32 (32 * n.val + 16 * c.val + 1))).toInt : ℤ)
        = ((min (32 * n.val + (16 * c.val + j.val / 8) + 1) 640 : ℕ) : ℤ) := by
      rw [show IntOp.addi (BitVec.ofNat 32 (j.val / 8)) (BitVec.ofNat 32 (32 * n.val + 16 * c.val + 1))
        = BitVec.ofNat 32 (j.val / 8 + (32 * n.val + 16 * c.val + 1)) from (BitVec.ofNat_add _ _).symm, Words.toInt_nat _ (by omega)]
      omega
    show Ideal.div (Ideal.log ((((IntOp.addi (k0_pay1389 (ix2 (0 : Fin 1) j)) (BitVec.ofNat 32 (32 * n.val + 16 * c.val + 1))).toInt : ℝ)) : EReal)) Head.log2e
      = Ideal.div (Ideal.log (((min (32 * n.val + (16 * c.val + j.val / 8) + 1) 640 : ℕ) : ℝ) : EReal)) Head.log2e
    rw [lane_apply, e, Int.cast_natCast]
  vt := by
    intro ρ d
    simp only [earlyInp]
    refine (shapeCast_apply _ _ _ (ix4 (0 : Fin 1) (0 : Fin 1) d (⟨ρ.val + 0, by omega⟩ : Fin (32 * (n.val + 1) + 32 * (3 - n.val % 4) + 0))) ?_).trans ?_
    · rw [Shape.rowMajor_val_four, Shape.rowMajor_val_two]
      show ((0 * 1 + 0) * 96 + d.val) * (32 * (n.val + 1) + 32 * (3 - n.val % 4) + 0) + (ρ.val + 0) = d.val * (32 * (n.val + 1) + 32 * (3 - n.val % 4) + 0) + (ρ.val + 0)
      rw [Nat.zero_mul, Nat.zero_add]
    refine (harg5.readAt_unread x3 _ _).trans (congrArg x3 ?_)
    funext a
    refine Fin.ext ((Rect.idx_unit_val _ _ _ _ _).trans ?_)
    fin_cases a
    · rfl
    · rfl
    · show 0 + d.val = d.val; omega
    · show 0 + (ρ.val + 0) = 32 * (n.val - n.val) + ρ.val; omega

theorem loop_reads (k : Fin k0_t1_loop.trips) (u : Fin 4) :
    (loopInp (F := Ideal) arg3 arg4 arg5 arg7 arg10 v2 k0_pay1386 k0_pay4984 (harg3.unread x1) (harg4.unread x2) (harg5.unread x3) (harg7.unread x5)
        (arg10.view.writes (Elt Ideal) arg10.view.junk L) k u).Reads
      (blockHead v2 ks x1 x2 x3 x5) (20 + 4 * k.val + u.val) (by have := trips_le k; omega) where
  hn := by omega
  win := .inl ⟨rfl, rfl⟩
  mask := mask_apply
  v2 := rfl
  kb := by
    intro ρ d
    simp only [loopInp]
    refine (shapeCast_apply _ _ _ (ix4 (0 : Fin 1) (0 : Fin 1) ρ d) ?_).trans ?_
    · rw [Shape.rowMajor_val_four, Shape.rowMajor_val_two]
      show ((0 * 1 + 0) * 672 + ρ.val) * 96 + d.val = ρ.val * 96 + d.val
      omega
    refine (harg4.readAt_unread x2 _ _).trans (congrArg x2 ?_)
    funext a
    refine Fin.ext ((Rect.idx_unit_val _ _ _ _ _).trans ?_)
    rw [off2_eq]
    fin_cases a
    · rfl
    · rfl
    · show 128 * k.val + 32 * u.val + ρ.val = 32 * (20 + 4 * k.val + u.val - 20) + ρ.val; omega
    · show 0 + d.val = d.val; omega
  q := by
    intro i g d
    refine (harg3.readAt_unread x1 _ _).trans (congrArg x1 ?_)
    funext a
    refine Fin.ext ((Rect.idx_unit_val _ _ _ _ _).trans ?_)
    rw [off3_eq]
    fin_cases a
    · rfl
    · show 640 + 128 * k.val + 32 * u.val + i.val = 32 * (20 + 4 * k.val + u.val) + i.val; omega
    · show 0 + g.val = g.val; omega
    · show 0 + d.val = d.val; omega
  ks := by
    intro h r j
    simp only [loopInp, View.readAt_writes_junk_eq_canon]
    refine (congrArg (View.canon L) ?_).trans (hL _ j)
    funext a
    refine Fin.ext ((Rect.idx_unit_val _ _ _ _ _).trans ?_)
    rw [off4_eq]
    fin_cases a
    · show 128 * k.val + 32 * u.val + 16 * h.val + r.val = 32 * (20 + 4 * k.val + u.val - 20) + (16 * h.val + r.val); omega
    · show 0 + j.val = j.val; omega
  qs := by
    intro c j
    refine (harg7.readAt_unread x5 _ _).trans (congrArg x5 ?_)
    funext a
    refine Fin.ext ((Rect.idx_unit_val _ _ _ _ _).trans ?_)
    rw [off5_eq]
    fin_cases a
    · rfl
    · rfl
    · show 40 + 8 * k.val + 2 * u.val + c.val + 0 = (32 * (20 + 4 * k.val + u.val) + (16 * c.val + j.val / 8)) / 16; omega
    · show 0 + j.val = (32 * (20 + 4 * k.val + u.val) + (16 * c.val + j.val / 8)) % 16 * 8 + j.val % 8; omega
  ln := by
    intro c j
    have e : (min (32 * (20 + 4 * k.val + u.val) + (16 * c.val + j.val / 8) + 1) 640 : ℕ) = 640 := by omega
    show Ideal.div (Ideal.log (Ideal.ofBits .f32 0x44200000#32)) Head.log2e
      = Ideal.div (Ideal.log (((min (32 * (20 + 4 * k.val + u.val) + (16 * c.val + j.val / 8) + 1) 640 : ℕ) : ℝ) : EReal)) Head.log2e
    rw [e, c640]
    norm_num
  vt := by
    intro ρ d
    simp only [loopInp]
    refine (shapeCast_apply _ _ _ (ix4 (0 : Fin 1) (0 : Fin 1) d (⟨ρ.val + 32 * u.val, by omega⟩ : Fin 768)) ?_).trans ?_
    · rw [Shape.rowMajor_val_four, Shape.rowMajor_val_two]
      show ((0 * 1 + 0) * 96 + d.val) * 768 + (ρ.val + 32 * u.val) = d.val * (32 * (20 + 1) + (96 - 32 * u.val) + 32 * u.val) + (ρ.val + 32 * u.val)
      rw [show 32 * (20 + 1) + (96 - 32 * u.val) + 32 * u.val = 768 by omega]
      omega
    refine (harg5.readAt_unread x3 _ _).trans (congrArg x3 ?_)
    funext a
    refine Fin.ext ((Rect.idx_unit_val _ _ _ _ _).trans ?_)
    rw [off6_eq]
    fin_cases a
    · rfl
    · rfl
    · show 0 + d.val = d.val; omega
    · show 128 * k.val + (ρ.val + 32 * u.val) = 32 * (20 + 4 * k.val + u.val - 20) + ρ.val; omega

end

/-! ## The keys' scales -/

theorem scales_pay (i : grid0.Coords) (w0 w1 : Vec Ideal S1x2304x1 .f32) (r : Fin 2304) (j : Fin 128) :
    k0_pay1388 (k0_pay1387 i w0 w1) (ix2 r j) = (if (i 1).val = 0 then w0 (ix3 (0 : Fin 1) r (0 : Fin 1)) else w1 (ix3 (0 : Fin 1) r (0 : Fin 1))) * Head.scale := by
  unfold k0_pay1388 k0_pay1387
  simp only [shapeCast_self]
  have hb : ∀ W : FVec Ideal S2304x1 .f32, broadcastTo S2304x128 W broadcasts_S2304x1_S2304x128 (ix2 r j) = W (ix2 r (0 : Fin 1)) := by
    intro W
    pointwise
  have hc : ∀ W : Vec Ideal S1x2304x1 .f32, shapeCast S2304x1 W shapeCasts_S1x2304x1_S2304x1 (ix2 r (0 : Fin 1)) = W (ix3 (0 : Fin 1) r (0 : Fin 1)) := by
    intro W
    refine shapeCast_apply _ _ _ _ ?_
    rw [Shape.rowMajor_val_three, Shape.rowMajor_val_two]
    show (0 * 2304 + r.val) * 1 + 0 = r.val * 1 + 0
    omega
  refine (hb _).trans ?_
  rw [← hc w0, ← hc w1]
  have hi : (i 1).val < 2 := (i 1).isLt
  generalize (i 1).val = z at hi
  interval_cases z <;> rfl

end Cert.Roll
-- ==== Proof.BlockSpec.lean ====
/- The kernel body's stores, read as one block, are the specification's values. -/
module

public import proofs.«01_k».proof.Proof.RunValue
public import proofs.«01_k».proof.Proof.Reads

@[expose] public section

noncomputable section

namespace Cert.Roll

open Idealize.ShloMosaic Idealize.SL.Sem Cert.KernelIdeal Cert.KernelIdeal.Gen

/-! ## Which stores the lists hold -/

section
variable {F : FTy → Type} [FloatOps F]
  {arg3 : Memref sig .tc .vmem S1x2304x8x96 .fp8e4m3} {arg4 : Memref sig .tc .vmem S1x1x2304x96 .fp8e4m3}
  {arg5 : Memref sig .tc .vmem S1x1x96x2304 .fp8e4m3} {arg7 : Memref sig .tc .vmem S1x1x144x128 .f32}
  {arg10 : Memref sig .tc .vmem S2304x128 .f32} {arg11 : Memref sig .tc .vmem S2x672x256 .f32}
  {v2 : Elt F .f32} {v29 : IVec S16x128 1} {X3 : BufTy.Contents (Elt F) arg3.view.ty}
  {X4 : BufTy.Contents (Elt F) arg4.view.ty} {X5 : BufTy.Contents (Elt F) arg5.view.ty}
  {X7 : BufTy.Contents (Elt F) arg7.view.ty} {L : List (View.Piece (Elt F) S2304x128 .f32)}
  {v18316 : FVec F S1x128 .f32} {X10 : BufTy.Contents (Elt F) arg10.view.ty}

theorem mem_earlyOuts {p : View.Piece (Elt F) S1x2304x8x96 .bf16} : ∀ n : ℕ, p ∈ earlyOuts arg3 arg4 arg5 arg7 arg10 arg11 v2 v29 X3 X4 X5 X7 L n →
    ∃ n, p = earlyOut arg3 arg4 arg5 arg7 arg10 arg11 v2 v29 X3 X4 X5 X7 L n
  | 0, h => absurd h List.not_mem_nil
  | n + 1, h => by
    rcases List.mem_cons.mp h with h | h
    · exact ⟨_, h⟩
    · exact mem_earlyOuts n h

theorem mem_earlyLses {p : View.Piece (Elt F) S1x1x144x128 .f32} : ∀ n : ℕ, p ∈ earlyLses arg3 arg4 arg5 arg7 arg10 arg11 v2 v29 X3 X4 X5 X7 L n →
    ∃ n c, p = earlyLse arg3 arg4 arg5 arg7 arg10 arg11 v2 v29 X3 X4 X5 X7 L n c
  | 0, h => absurd h List.not_mem_nil
  | n + 1, h => by
    rcases List.mem_cons.mp h with h | h
    · exact ⟨_, _, h⟩
    rcases List.mem_cons.mp h with h | h
    · exact ⟨_, _, h⟩
    · exact mem_earlyLses n h

theorem mem_loopOuts {p : View.Piece (Elt F) S1x2304x8x96 .bf16} : ∀ n : ℕ, p ∈ loopOuts arg3 arg4 arg5 arg7 arg10 arg11 v2 v29 X3 X4 X5 X7 v18316 X10 n →
    ∃ k u, p = loopOut arg3 arg4 arg5 arg7 arg10 arg11 v2 v29 v18316 X3 X4 X5 X7 X10 k u
  | 0, h => absurd h List.not_mem_nil
  | n + 1, h => by
    rw [loopOuts.eq_2] at h
    split at h
    · rcases List.mem_append.mp h with h | h
      · simp only [List.mem_cons, List.not_mem_nil, or_false] at h
        rcases h with h | h | h | h <;> exact ⟨_, _, h⟩
      · exact mem_loopOuts n h
    · exact mem_loopOuts n h

theorem mem_loopLses {p : View.Piece (Elt F) S1x1x144x128 .f32} : ∀ n : ℕ, p ∈ loopLses arg3 arg4 arg5 arg7 arg10 arg11 v2 v29 X3 X4 X5 X7 v18316 X10 n →
    ∃ k u c, p = loopLse arg3 arg4 arg5 arg7 arg10 arg11 v2 v29 v18316 X3 X4 X5 X7 X10 k u c
  | 0, h => absurd h List.not_mem_nil
  | n + 1, h => by
    rw [loopLses.eq_2] at h
    split at h
    · rcases List.mem_append.mp h with h | h
      · simp only [List.mem_cons, List.not_mem_nil, or_false] at h
        rcases h with h | h | h | h | h | h | h | h <;> exact ⟨_, _, _, h⟩
      · exact mem_loopLses n h
    · exact mem_loopLses n h

end

/-! ## The blocks -/

section
variable (i : grid0.Coords) (arg2 : Memref sig .tc .smem S12x2 .f32) (harg2 : arg2.IsWhole) (arg3 : Memref sig .tc .vmem S1x2304x8x96 .fp8e4m3) (harg3 : arg3.IsWhole)
  (arg4 : Memref sig .tc .vmem S1x1x2304x96 .fp8e4m3) (harg4 : arg4.IsWhole) (arg5 : Memref sig .tc .vmem S1x1x96x2304 .fp8e4m3) (harg5 : arg5.IsWhole)
  (arg6 : Memref sig .tc .vmem S1x2304x2 .f32) (harg6 : arg6.IsWhole) (arg7 : Memref sig .tc .vmem S1x1x144x128 .f32) (harg7 : arg7.IsWhole)
  (arg10 : Memref sig .tc .vmem S2304x128 .f32) (arg11 : Memref sig .tc .vmem S2x672x256 .f32)
  (x0 : Vec Ideal S12x2 .f32) (x1 : Vec Ideal S1x2304x8x96 .fp8e4m3) (x2 : Vec Ideal S1x1x2304x96 .fp8e4m3) (x3 : Vec Ideal S1x1x96x2304 .fp8e4m3) (x4 : Vec Ideal S1x2304x2 .f32) (x5 : Vec Ideal S1x1x144x128 .f32)

theorem v2_eq : bodyV2 (F := Ideal) i arg2 harg2 x0 = x0 (ix2 (i 0 : Fin 12) (i 1 : Fin 2)) := by
  refine (harg2.readAt_unread x0 _ _).trans (congrArg x0 ?_)
  have h0 : (i 0).val < 12 := (i 0).isLt
  have h1 : (i 1).val < 2 := (i 1).isLt
  funext a
  refine Fin.ext ((Rect.idx_unit_val _ _ _ _ _).trans ?_)
  fin_cases a
  · show (BitVec.ofNat 32 (i 0).val).toNat + 0 = (i 0).val
    rw [BitVec.toNat_ofNat]; omega
  · show (BitVec.ofNat 32 (i 1).val).toNat + 0 = (i 1).val
    rw [BitVec.toNat_ofNat]; omega

theorem canon_scales (r : Fin 2304) (j : Fin 128) :
    View.canon (bodyScales (F := Ideal) i arg6 harg6 x4) (ix2 r j) = x4 (ix3 (0 : Fin 1) r (i 1 : Fin 2)) * Head.scale := by
  refine View.canon_eq_of_allAt _ _ _ (View.cover_of_tiledL _ S2304x128.size (by sl_kernel_rfl) _) ?_
  refine View.allAt_cons_unit _ _ _ _ [] (fun x hx => ?_) (fun p hp => absurd hp List.not_mem_nil)
  have hx' : x = ix2 r j := by
    funext a
    have := hx a
    refine Fin.ext ?_
    fin_cases a
    · have h : r.val = 0 + (x 0).val := this
      show (x 0).val = r.val; omega
    · have h : j.val = 0 + (x 1).val := this
      show (x 1).val = j.val; omega
  rw [hx', scales_pay]
  have h1 : (i 1).val < 2 := (i 1).isLt
  refine congrArg (· * Head.scale) ?_
  by_cases h : (i 1).val = 0
  · rw [if_pos h]
    refine (harg6.readAt_unread x4 _ _).trans (congrArg x4 ?_)
    funext a
    refine Fin.ext ((Rect.idx_unit_val _ _ _ _ _).trans ?_)
    fin_cases a
    · rfl
    · show 0 + r.val = r.val; omega
    · show 0 + 0 = (i 1).val; omega
  · rw [if_neg h]
    refine (harg6.readAt_unread x4 _ _).trans (congrArg x4 ?_)
    funext a
    refine Fin.ext ((Rect.idx_unit_val _ _ _ _ _).trans ?_)
    fin_cases a
    · rfl
    · show 0 + r.val = r.val; omega
    · show 1 + 0 = (i 1).val; omega

/-- The inputs the grid point's blocks hold. -/
def pointHead : Head := blockHead (bodyV2 (F := Ideal) i arg2 harg2 x0) (fun r => x4 (ix3 (0 : Fin 1) r (i 1 : Fin 2))) x1 x2 x3 x5

theorem canon_outs (y : S1x2304x8x96.Idx) :
    View.canon (bodyOuts (F := Ideal) i arg2 harg2 arg3 harg3 arg4 harg4 arg5 harg5 arg6 harg6 arg7 harg7 arg10 arg11 x0 x1 x2 x3 x4 x5) y
      = (pointHead i arg2 harg2 x0 x1 x2 x3 x4 x5).out (y 1) (y 2) (y 3) := by
  refine View.canon_eq_of_allAt _ _ _ (cover_outs i arg2 harg2 arg3 harg3 arg4 harg4 arg5 harg5 arg6 harg6 arg7 harg7 arg10 arg11 x0 x1 x2 x3 x4 x5 y) ?_
  intro p hp x hx
  subst hx
  unfold bodyOuts at hp
  rcases List.mem_append.mp hp with hp | hp
  · obtain ⟨k, u, rfl⟩ := mem_loopOuts _ hp
    have R := loop_reads arg3 harg3 arg4 harg4 arg5 harg5 arg7 harg7 arg10 (bodyV2 (F := Ideal) i arg2 harg2 x0) _ x1 x2 x3 x5 _ (canon_scales i arg6 harg6 x4) k u
    obtain ⟨i', g, d, rfl⟩ : ∃ (i' : Fin 32) (g : Fin 8) (d : Fin 96), x = ix4 (0 : Fin 1) i' g d :=
      ⟨x 1, x 2, x 3, by funext a; fin_cases a; exact Subsingleton.elim (α := Fin 1) _ _; rfl; rfl; rfl⟩
    refine (Inp.out_eq R _ (Inp.back_ok _ _ _ _ _) i' g d).trans ?_
    have h1 := (Rect.idx_unit_val (s := S1x2304x8x96) _ S1x32x8x96.size (k0_off3_inb k u) (ix4 (0 : Fin 1) i' g d) 1).trans (congrArg (· + _) (off3_eq k u 1))
    have h2 := (Rect.idx_unit_val (s := S1x2304x8x96) _ S1x32x8x96.size (k0_off3_inb k u) (ix4 (0 : Fin 1) i' g d) 2).trans (congrArg (· + _) (off3_eq k u 2))
    have h3 := (Rect.idx_unit_val (s := S1x2304x8x96) _ S1x32x8x96.size (k0_off3_inb k u) (ix4 (0 : Fin 1) i' g d) 3).trans (congrArg (· + _) (off3_eq k u 3))
    congr 1
    · refine Fin.ext (Eq.trans ?_ h1.symm)
      show 32 * (20 + 4 * k.val + u.val) + i'.val = 640 + 128 * k.val + 32 * u.val + i'.val; omega
    · refine Fin.ext (Eq.trans ?_ h2.symm)
      show g.val = 0 + g.val; omega
    · refine Fin.ext (Eq.trans ?_ h3.symm)
      show d.val = 0 + d.val; omega
  · obtain ⟨n, rfl⟩ := mem_earlyOuts _ hp
    have R := early_reads arg3 harg3 arg4 harg4 arg5 harg5 arg7 harg7 arg10 (bodyV2 (F := Ideal) i arg2 harg2 x0) _ x1 x2 x3 x5 _ (canon_scales i arg6 harg6 x4) n
    obtain ⟨i', g, d, rfl⟩ : ∃ (i' : Fin 32) (g : Fin 8) (d : Fin 96), x = ix4 (0 : Fin 1) i' g d :=
      ⟨x 1, x 2, x 3, by funext a; fin_cases a; exact Subsingleton.elim (α := Fin 1) _ _; rfl; rfl; rfl⟩
    refine (Inp.out_eq R _ (Inp.back_ok _ _ _ _ _) i' g d).trans ?_
    have h1 := Rect.idx_unit_val (s := S1x2304x8x96) _ S1x32x8x96.size (inb_queries n.val n.isLt) (ix4 (0 : Fin 1) i' g d) 1
    have h2 := Rect.idx_unit_val (s := S1x2304x8x96) _ S1x32x8x96.size (inb_queries n.val n.isLt) (ix4 (0 : Fin 1) i' g d) 2
    have h3 := Rect.idx_unit_val (s := S1x2304x8x96) _ S1x32x8x96.size (inb_queries n.val n.isLt) (ix4 (0 : Fin 1) i' g d) 3
    congr 1
    · refine Fin.ext (Eq.trans ?_ h1.symm)
      show 32 * n.val + i'.val = 32 * n.val + i'.val; rfl
    · refine Fin.ext (Eq.trans ?_ h2.symm)
      show g.val = 0 + g.val; omega
    · refine Fin.ext (Eq.trans ?_ h3.symm)
      show d.val = 0 + d.val; omega

theorem canon_lses (y : S1x1x144x128.Idx) :
    View.canon (bodyLses (F := Ideal) i arg2 harg2 arg3 harg3 arg4 harg4 arg5 harg5 arg6 harg6 arg7 harg7 arg10 arg11 x0 x1 x2 x3 x4 x5) y
      = (pointHead i arg2 harg2 x0 x1 x2 x3 x4 x5).lse ⟨(y 2).val * 16 + (y 3).val / 8, by have : (y 2).val < 144 := (y 2).isLt; have : (y 3).val < 128 := (y 3).isLt; omega⟩
          ⟨(y 3).val % 8, Nat.mod_lt _ (by decide)⟩ := by
  refine View.canon_eq_of_allAt _ _ _ (cover_lses i arg2 harg2 arg3 harg3 arg4 harg4 arg5 harg5 arg6 harg6 arg7 harg7 arg10 arg11 x0 x1 x2 x3 x4 x5 y) ?_
  intro p hp x hx
  subst hx
  unfold bodyLses at hp
  rcases List.mem_append.mp hp with hp | hp
  · obtain ⟨k, u, c, rfl⟩ := mem_loopLses _ hp
    have R := loop_reads arg3 harg3 arg4 harg4 arg5 harg5 arg7 harg7 arg10 (bodyV2 (F := Ideal) i arg2 harg2 x0) _ x1 x2 x3 x5 _ (canon_scales i arg6 harg6 x4) k u
    obtain ⟨j, rfl⟩ : ∃ j : Fin 128, x = ix4 (0 : Fin 1) (0 : Fin 1) (0 : Fin 1) j :=
      ⟨x 3, by funext a; fin_cases a; exact Subsingleton.elim (α := Fin 1) _ _; exact Subsingleton.elim (α := Fin 1) _ _; exact Subsingleton.elim (α := Fin 1) _ _; rfl⟩
    refine (Inp.lse_eq R _ (Inp.back_ok _ _ _ _ _) c j).trans ?_
    have h2 := (Rect.idx_unit_val (s := S1x1x144x128) _ _ (k0_off5_inb k u c) (ix4 (0 : Fin 1) (0 : Fin 1) (0 : Fin 1) j) 2).trans
      (congrArg (· + _) (off5_eq k u c 2))
    have h3 := (Rect.idx_unit_val (s := S1x1x144x128) _ _ (k0_off5_inb k u c) (ix4 (0 : Fin 1) (0 : Fin 1) (0 : Fin 1) j) 3).trans
      (congrArg (· + _) (off5_eq k u c 3))
    refine congrArg₂ _ (Fin.ext (Eq.trans ?_ (congrArg₂ (fun a b : ℕ => a * 16 + b / 8) h2 h3).symm)) (Fin.ext (Eq.trans ?_ (congrArg (fun b : ℕ => b % 8) h3).symm))
    · show 32 * (20 + 4 * k.val + u.val) + (16 * c.val + j.val / 8) = (40 + 8 * k.val + 2 * u.val + c.val + 0) * 16 + (0 + j.val) / 8
      omega
    · show j.val % 8 = (0 + j.val) % 8
      omega
  · obtain ⟨n, c, rfl⟩ := mem_earlyLses _ hp
    have R := early_reads arg3 harg3 arg4 harg4 arg5 harg5 arg7 harg7 arg10 (bodyV2 (F := Ideal) i arg2 harg2 x0) _ x1 x2 x3 x5 _ (canon_scales i arg6 harg6 x4) n
    obtain ⟨j, rfl⟩ : ∃ j : Fin 128, x = ix4 (0 : Fin 1) (0 : Fin 1) (0 : Fin 1) j :=
      ⟨x 3, by funext a; fin_cases a; exact Subsingleton.elim (α := Fin 1) _ _; exact Subsingleton.elim (α := Fin 1) _ _; exact Subsingleton.elim (α := Fin 1) _ _; rfl⟩
    refine (Inp.lse_eq R _ (Inp.back_ok _ _ _ _ _) c j).trans ?_
    have h2 := Rect.idx_unit_val (s := S1x1x144x128) _ _ (inb_row (2 * n.val + c.val) (by omega)) (ix4 (0 : Fin 1) (0 : Fin 1) (0 : Fin 1) j) 2
    have h3 := Rect.idx_unit_val (s := S1x1x144x128) _ _ (inb_row (2 * n.val + c.val) (by omega)) (ix4 (0 : Fin 1) (0 : Fin 1) (0 : Fin 1) j) 3
    refine congrArg₂ _ (Fin.ext (Eq.trans ?_ (congrArg₂ (fun a b : ℕ => a * 16 + b / 8) h2 h3).symm)) (Fin.ext (Eq.trans ?_ (congrArg (fun b : ℕ => b % 8) h3).symm))
    · show 32 * n.val + (16 * c.val + j.val / 8) = (2 * n.val + c.val + 0) * 16 + (0 + j.val) / 8
      omega
    · show j.val % 8 = (0 + j.val) % 8
      omega

end

end Cert.Roll
-- ==== Proof.ArgHead.lean ====
/- The specification's inputs, read off the arguments, and the two result arrays. -/
module

public import proofs.«01_k».proof.Proof.Spec
public import Idealize.ShloMosaic.Lib.Pointwise

@[expose] public section

noncomputable section

namespace Cert

open Idealize.ShloMosaic Idealize.SL.Sem

section
variable (a0 : (⟨4, ![12, 2304, 16, 96]⟩ : Shape).Idx → EReal) (a1 : (⟨3, ![12, 2304, 16]⟩ : Shape).Idx → EReal)
  (a2 : (⟨4, ![12, 2304, 2, 96]⟩ : Shape).Idx → EReal) (a3 : (⟨3, ![12, 2304, 2]⟩ : Shape).Idx → EReal)
  (a4 : (⟨4, ![12, 2304, 2, 96]⟩ : Shape).Idx → EReal) (a5 : (⟨2, ![12, 2]⟩ : Shape).Idx → EReal)

/-- The query head at place `g` of a key head's group. -/
def headOf (kv : Fin 2) (g : Fin 8) : Fin 16 := ⟨kv.val * 8 + g.val, by omega⟩

/-- The inputs of batch entry `b` and key head `kv`. -/
def argHead (b : Fin 12) (kv : Fin 2) : Head where
  q p g d := a0 (ix4 b p (headOf kv g) d)
  k p d := a2 (ix4 b p kv d)
  v p d := a4 (ix4 b p kv d)
  qs p g := a1 (ix3 b p (headOf kv g))
  ks p := a3 (ix3 b p kv)
  vs := a5 (ix2 b kv)

/-- The attention's result. -/
def outArr (y : (⟨4, ![12, 2304, 16, 96]⟩ : Shape).Idx) : EReal :=
  (argHead a0 a1 a2 a3 a4 a5 (y 0) ⟨(y 2).val / 8, by have h : (y 2).val < 16 := (y 2).isLt; omega⟩).out (y 1) ⟨(y 2).val % 8, Nat.mod_lt _ (by decide)⟩ (y 3)

/-- The logarithms of the sums, each row of 128 lanes sixteen positions by eight heads. -/
def lseArr (y : (⟨4, ![12, 2, 144, 128]⟩ : Shape).Idx) : EReal :=
  (argHead a0 a1 a2 a3 a4 a5 (y 0) (y 1)).lse
    ⟨(y 2).val * 16 + (y 3).val / 8, by have h : (y 2).val < 144 := (y 2).isLt; have h' : (y 3).val < 128 := (y 3).isLt; omega⟩ ⟨(y 3).val % 8, Nat.mod_lt _ (by decide)⟩

end

end Cert
-- ==== Proof.KerArr.lean ====
/- The kernel's result arrays are the specification's. -/
module

public import proofs.«01_k».proof.Proof.BlockSpec
public import proofs.«01_k».proof.Proof.ArgHead
public import Idealize.ShloMosaic.Lib.Pipeline.ValueKit
public import Idealize.ShloMosaic.Lib.StableHlo.Run

@[expose] public section

noncomputable section

namespace Cert.Roll

open Idealize.ShloMosaic Idealize.ShloMosaic.TcCoe Idealize.SL.Sem Cert.KernelIdeal Cert.KernelIdeal.Gen

variable (m : (ℓ : Loc nD τ sig) → Buf (Elt Ideal) ℓ) (c : Dev nD)

/-! ## The arrays the host hands the kernel -/

theorem V_keys : V m c main_v0 = transpose S12x2x2304x96 [0, 2, 1, 3] (m ((c : Thread nD τ).loc main_arg2)) transposes_S12x2304x2x96_S12x2x2304x96_0_2_1_3 := by
  show StableHlo.after hostOps0 _ (Proc.devRef .tc main_v0) = _
  after_results
  try rfl

theorem V_values : V m c main_v1 = transpose S12x2x96x2304 [0, 2, 3, 1] (m ((c : Thread nD τ).loc main_arg4)) transposes_S12x2304x2x96_S12x2x96x2304_0_2_3_1 := by
  show StableHlo.after hostOps0 _ (Proc.devRef .tc main_v1) = _
  after_results
  try rfl

theorem V_scales : V m c main_v4 = shapeCast S12x2x144x128 (transpose S12x2x2304x8 [0, 2, 1, 3]
    (shapeCast S12x2304x2x8 (m ((c : Thread nD τ).loc main_arg1)) shapeCasts_S12x2304x16_S12x2304x2x8) transposes_S12x2304x2x8_S12x2x2304x8_0_2_1_3)
      shapeCasts_S12x2x2304x8_S12x2x144x128 := by
  show StableHlo.after hostOps0 _ (Proc.devRef .tc main_v4) = _
  after_results
  try rfl

theorem keys_host (a : Vec Ideal S12x2304x2x96 .fp8e4m3) (b : Fin 12) (kv : Fin 2) (x : Fin 2304) (d : Fin 96) :
    transpose S12x2x2304x96 [0, 2, 1, 3] a transposes_S12x2304x2x96_S12x2x2304x96_0_2_1_3 (ix4 b kv x d) = a (ix4 b x kv d) :=
  congrArg a (by funext i; fin_cases i <;> rfl)

theorem values_host (a : Vec Ideal S12x2304x2x96 .fp8e4m3) (b : Fin 12) (kv : Fin 2) (x : Fin 2304) (d : Fin 96) :
    transpose S12x2x96x2304 [0, 2, 3, 1] a transposes_S12x2304x2x96_S12x2x96x2304_0_2_3_1 (ix4 b kv d x) = a (ix4 b x kv d) :=
  congrArg a (by funext i; fin_cases i <;> rfl)

theorem scales_host (a : Vec Ideal S12x2304x16 .f32) (b : Fin 12) (kv : Fin 2) (p : Fin 2304) (g : Fin 8) :
    shapeCast S12x2x144x128 (transpose S12x2x2304x8 [0, 2, 1, 3]
      (shapeCast S12x2304x2x8 a shapeCasts_S12x2304x16_S12x2304x2x8) transposes_S12x2304x2x8_S12x2x2304x8_0_2_1_3) shapeCasts_S12x2x2304x8_S12x2x144x128
      (ix4 b kv (⟨p.val / 16, by omega⟩ : Fin 144) (⟨p.val % 16 * 8 + g.val, by omega⟩ : Fin 128)) = a (ix3 b p (headOf kv g)) := by
  refine (shapeCast_apply _ _ _ (ix4 b kv p g) ?_).trans
    ((congrArg (shapeCast S12x2304x2x8 a shapeCasts_S12x2304x16_S12x2304x2x8) (?_ : _ = ix4 b p kv g)).trans (shapeCast_apply _ _ _ (ix3 b p (headOf kv g)) ?_))
  · rw [Shape.rowMajor_val_four, Shape.rowMajor_val_four]
    show ((b.val * 2 + kv.val) * 2304 + p.val) * 8 + g.val = ((b.val * 2 + kv.val) * 144 + p.val / 16) * 128 + (p.val % 16 * 8 + g.val)
    omega
  · funext i
    fin_cases i <;> rfl
  · rw [Shape.rowMajor_val_four, Shape.rowMajor_val_three]
    show (b.val * 2304 + p.val) * 16 + (kv.val * 8 + g.val) = ((b.val * 2304 + p.val) * 2 + kv.val) * 8 + g.val
    omega

/-! ## The blocks at a grid point -/

theorem idx0 : ∀ t : Fin cfg0.N, win0_0.index t = ![0, 0] := (by decide +kernel : ∀ t : Fin grid0.N, _)
theorem idx1 : ∀ t : Fin cfg0.N, win0_1.index t = ![(grid0.coords t 0).val, 0, (grid0.coords t 1).val, 0] := (by decide +kernel : ∀ t : Fin grid0.N, _)
theorem idx2 : ∀ t : Fin cfg0.N, win0_2.index t = ![(grid0.coords t 0).val, (grid0.coords t 1).val, 0, 0] := (by decide +kernel : ∀ t : Fin grid0.N, _)
theorem idx3 : ∀ t : Fin cfg0.N, win0_3.index t = ![(grid0.coords t 0).val, (grid0.coords t 1).val, 0, 0] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, (grid0.coords t 1).val, 0, 0] := (by decide +kernel : ∀ t : Fin grid0.N, _)
theorem idx6 : ∀ t : Fin cfg0.N, win0_6.index t = ![(grid0.coords t 0).val, 0, (grid0.coords t 1).val, 0] := (by decide +kernel : ∀ t : Fin grid0.N, _)
theorem idx7 : ∀ t : Fin cfg0.N, win0_7.index t = ![(grid0.coords t 0).val, (grid0.coords t 1).val, 0, 0] := (by decide +kernel : ∀ t : Fin grid0.N, _)

/-- The batch entry of a grid point. -/
abbrev batch (t : Fin cfg0.N) : Fin 12 := grid0.coords t 0
/-- The key head of a grid point. -/
abbrev keyHead (t : Fin cfg0.N) : Fin 2 := grid0.coords t 1

theorem blk_vs (t : Fin cfg0.N) (b : Fin 12) (kv : Fin 2) : iblk m c 0 t (ix2 b kv) = m ((c : Thread nD τ).loc main_arg5) (ix2 b kv) := by
  rw [← V_main_arg5 m c]
  exact congrArg (V m c main_arg5) (by blk_ext [idx0 t])

theorem blk_q (t : Fin cfg0.N) (p : Fin 2304) (g : Fin 8) (d : Fin 96) :
    iblk m c 1 t (ix4 (0 : Fin 1) p g d) = m ((c : Thread nD τ).loc main_arg0) (ix4 (batch t) p (headOf (keyHead t) g) d) := by
  rw [← V_main_arg0 m c]
  exact congrArg (V m c main_arg0) (by blk_ext [idx1 t, batch, keyHead, headOf])

theorem blk_k (t : Fin cfg0.N) (p : Fin 2304) (d : Fin 96) :
    iblk m c 2 t (ix4 (0 : Fin 1) (0 : Fin 1) p d) = m ((c : Thread nD τ).loc main_arg2) (ix4 (batch t) p (keyHead t) d) := by
  rw [← keys_host (m ((c : Thread nD τ).loc main_arg2)), ← V_keys m c]
  exact congrArg (V m c main_v0) (by blk_ext [idx2 t, batch, keyHead])

theorem blk_v (t : Fin cfg0.N) (p : Fin 2304) (d : Fin 96) :
    iblk m c 3 t (ix4 (0 : Fin 1) (0 : Fin 1) d p) = m ((c : Thread nD τ).loc main_arg4) (ix4 (batch t) p (keyHead t) d) := by
  rw [← values_host (m ((c : Thread nD τ).loc main_arg4)), ← V_values m c]
  exact congrArg (V m c main_v1) (by blk_ext [idx3 t, batch, keyHead])

theorem blk_ks (t : Fin cfg0.N) (p : Fin 2304) (kv : Fin 2) :
    iblk m c 4 t (ix3 (0 : Fin 1) p kv) = m ((c : Thread nD τ).loc main_arg3) (ix3 (batch t) p kv) := by
  rw [← V_main_arg3 m c]
  exact congrArg (V m c main_arg3) (by blk_ext [idx4 t, batch, keyHead])

theorem blk_qs (t : Fin cfg0.N) (p : Fin 2304) (g : Fin 8) :
    iblk m c 5 t (ix4 (0 : Fin 1) (0 : Fin 1) (⟨p.val / 16, by omega⟩ : Fin 144) (⟨p.val % 16 * 8 + g.val, by omega⟩ : Fin 128))
      = m ((c : Thread nD τ).loc main_arg1) (ix3 (batch t) p (headOf (keyHead t) g)) := by
  rw [← scales_host (m ((c : Thread nD τ).loc main_arg1)), ← V_scales m c]
  exact congrArg (V m c main_v4) (by blk_ext [idx5 t, batch, keyHead])

/-- The inputs a grid point's blocks hold are those of its batch entry and key head. -/
theorem point_head (t : Fin cfg0.N) :
    pointHead (grid0.coords t) (ms0_0 t) (hs0_0 t) (iblk m c 0 t) (iblk m c 1 t) (iblk m c 2 t) (iblk m c 3 t) (iblk m c 4 t) (iblk m c 5 t)
      = argHead (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (batch t) (keyHead t) := by
  unfold pointHead blockHead argHead
  congr 1
  · funext p g d; exact blk_q m c t p g d
  · funext p d; exact blk_k m c t p d
  · funext p d; exact blk_v m c t p d
  · funext p g; exact blk_qs m c t p g
  · funext p; exact blk_ks m c t p (keyHead t)
  · exact (v2_eq (grid0.coords t) (ms0_0 t) (hs0_0 t) (iblk m c 0 t)).trans (blk_vs m c t (batch t) (keyHead t))

/-! ## The arrays after the run -/

theorem arr_out : (dats m 0 c).arrAt 6 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  obtain ⟨i, g, d, rfl⟩ : ∃ (i : Fin 2304) (g : Fin 8) (d : Fin 96), y = ix4 (0 : Fin 1) i g d :=
    ⟨y 1, y 2, y 3, by funext a; fin_cases a; exact Subsingleton.elim (α := Fin 1) _ _; rfl; rfl; rfl⟩
  have ey : (win0_6.blk t).view.emb (ix4 (0 : Fin 1) i g d) = ix4 (batch t) i (headOf (keyHead t) g) d := by blk_ext [idx6 t, batch, keyHead, headOf]
  rw [after0_6]
  refine (canon_outs (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 scM0_1 (iblk m c 0 t) (iblk m c 1 t) (iblk m c 2 t) (iblk m c 3 t) (iblk m c 4 t) (iblk m c 5 t) (ix4 (0 : Fin 1) i g d)).trans ?_
  rw [point_head]
  rw [ey]
  unfold outArr
  have hk : keyHead t = ⟨(headOf (keyHead t) g).val / 8, by have := g.isLt; have := (keyHead t).isLt; show ((keyHead t).val * 8 + g.val) / 8 < 2; omega⟩ := Fin.ext (by show (keyHead t).val = ((keyHead t).val * 8 + g.val) / 8; omega)
  have hg : g = ⟨(headOf (keyHead t) g).val % 8, Nat.mod_lt _ (by decide)⟩ := Fin.ext (by show g.val = ((keyHead t).val * 8 + g.val) % 8; omega)
  exact congrArg₂ (fun (kv : Fin 2) (g : Fin 8) => (argHead _ _ _ _ _ _ (batch t) kv).out i g d) hk hg

theorem arr_lse : (dats m 0 c).arrAt 7 cfg0.N
    = lseArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  obtain ⟨r, j, rfl⟩ : ∃ (r : Fin 144) (j : Fin 128), y = ix4 (0 : Fin 1) (0 : Fin 1) r j :=
    ⟨y 2, y 3, by funext a; fin_cases a; exact Subsingleton.elim (α := Fin 1) _ _; exact Subsingleton.elim (α := Fin 1) _ _; rfl; rfl⟩
  have ey : (win0_7.blk t).view.emb (ix4 (0 : Fin 1) (0 : Fin 1) r j) = ix4 (batch t) (keyHead t) r j := by blk_ext [idx7 t, batch, keyHead]
  rw [after0_7]
  refine (canon_lses (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 scM0_1 (iblk m c 0 t) (iblk m c 1 t) (iblk m c 2 t) (iblk m c 3 t) (iblk m c 4 t) (iblk m c 5 t) (ix4 (0 : Fin 1) (0 : Fin 1) r j)).trans ?_
  rw [point_head]
  rw [ey]
  rfl

end Cert.Roll
-- ==== Proof.RefSpec.lean ====
/- The reference's body at the exact numbers is the specification. -/
module

public import proofs.«01_k».proof.Proof.Spec
public import proofs.«01_k».proof.Proof.Words
public import proofs.«01_k».proof.Proof.Gen.ReferenceIdeal.Value
public import Idealize.ShloMosaic.Lib.Pointwise
public import Idealize.ShloMosaic.Lib.Pipeline.Value

@[expose] public section

noncomputable section

namespace Cert.RefSpec

open Idealize.ShloMosaic Idealize.SL.Sem Cert.ReferenceIdeal Cert.ReferenceIdeal.Gen

/-- The arrays the body is handed. -/
structure Arr where
  q : Vec Ideal S24x18432x96 .fp8e4m3
  qs : Vec Ideal S24x18432x1 .f32
  k : Vec Ideal S24x2304x96 .fp8e4m3
  ks : Vec Ideal S24x1x2304 .f32
  v : Vec Ideal S24x2304x96 .fp8e4m3
  vs : Vec Ideal S24x1x1 .f32

def row (i : Fin 2304) (g : Fin 8) : Fin 18432 := ⟨i.val * 8 + g.val, by omega⟩

/-- The inputs of one batch entry and one key head. -/
def Arr.head (X : Arr) (b : Fin 24) : Head where
  q i g d := X.q (ix3 b (row i g) d)
  k x d := X.k (ix3 b x d)
  v x d := X.v (ix3 b x d)
  qs i g := X.qs (ix3 b (row i g) (0 : Fin 1))
  ks x := X.ks (ix3 b (0 : Fin 1) x)
  vs := X.vs (ix3 b (0 : Fin 1) (0 : Fin 1))

theorem row_div (i : Fin 2304) (g : Fin 8) : (row i g).val / 8 = i.val := by
  show (i.val * 8 + g.val) / 8 = i.val
  omega

/-! ## The positions -/

theorem pos_apply (b : Fin 24) (i : Fin 2304) (g : Fin 8) (x : Fin 2304) :
    (select k0_pay4 k0_pay5 k0_pay3 : IVec S24x18432x2304 32) (ix3 b (row i g) x) = BitVec.ofNat 32 i.val := by
  rw [← row_div i g]
  refine (?_ : _ = _).trans (Words.floordiv8 .vector .vector (row i g).val (by omega))
  have e : iota .tc S24x18432x2304 32 [1] iota_S24x18432x2304_d1_w32 (ix3 b (row i g) x) = BitVec.ofNat 32 (row i g).val := iota_single_apply _ _ _ _ _ _
  rw [← e]
  rfl

theorem vis_apply (b : Fin 24) (i : Fin 2304) (g : Fin 8) (x : Fin 2304) :
    k0_pay6 k0_pay3 k0_pay4 k0_pay5 (ix3 b (row i g) x) = 1#1 ↔ Head.Vis i x := by
  have h := pos_apply b i g x
  have e : iota .tc S24x18432x2304 32 [2] iota_S24x18432x2304_d2_w32 (ix3 b (row i g) x) = BitVec.ofNat 32 x.val := iota_single_apply _ _ _ _ _ _
  show IntOp.andi (IntOp.cmpi .sle (iota .tc S24x18432x2304 32 [2] iota_S24x18432x2304_d2_w32 (ix3 b (row i g) x))
      ((select k0_pay4 k0_pay5 k0_pay3 : IVec S24x18432x2304 32) (ix3 b (row i g) x)))
    (IntOp.cmpi .sgt (iota .tc S24x18432x2304 32 [2] iota_S24x18432x2304_d2_w32 (ix3 b (row i g) x))
      (IntOp.subi ((select k0_pay4 k0_pay5 k0_pay3 : IVec S24x18432x2304 32) (ix3 b (row i g) x)) 640#32)) = 1#1 ↔ _
  rw [h, e]
  exact Words.mask_iff i.val x.val i.isLt x.isLt

theorem pos1_apply (b : Fin 24) (i : Fin 2304) (g : Fin 8) :
    k0_pay13 (F := Ideal) (ix3 b (row i g) (0 : Fin 1)) = (((min (i.val + 1) 640 : ℕ) : ℝ) : EReal) := by
  have e : iota .tc S24x18432x1 32 [1] iota_S24x18432x1_d1_w32 (ix3 b (row i g) (0 : Fin 1)) = BitVec.ofNat 32 (row i g).val := iota_single_apply _ _ _ _ _ _
  have h : ∀ w : BitVec 32, w = BitVec.ofNat 32 (row i g).val →
      (FloatOps.sitofp (F := Ideal) .f32 (IntOp.minsi (IntOp.addi (Scalar.select (IntOp.andi (IntOp.cmpi .ne (IntOp.subi ((IntOp.cmpi .sgt w 0#32).setWidth 32)
          ((IntOp.cmpi .slt w 0#32).setWidth 32)) 1#32)
        (IntOp.cmpi .ne (IntOp.remsi .vector w 8#32) 0#32))
      (IntOp.subi (IntOp.divsi .vector w 8#32) 1#32) (IntOp.divsi .vector w 8#32)) 1#32) 640#32) : EReal) = (((min (i.val + 1) 640 : ℕ) : ℝ) : EReal) := by
    rintro w rfl
    rw [Words.floordiv8 .vector .vector _ (by omega), row_div]
    show (((IntOp.minsi (IntOp.addi (BitVec.ofNat 32 i.val) 1#32) 640#32).toInt : ℝ) : EReal) = _
    rw [Words.count i.val i.isLt]
    simp
  exact h _ e

/-! ## The scores and the sum -/

section
variable (X : Arr)

/-- The scores. -/
def Arr.s : FVec Ideal S24x18432x2304 .f32 := k0_pay2 X.q X.k X.qs X.ks

/-- The codes' products. -/
def Arr.dot : FVec Ideal S24x18432x2304 .f32 :=
  matmul (φ₁ := .fp8e4m3) (φ₂ := .fp8e4m3) dot_S24x18432x96_S24x2304x96_S24x18432x2304_2_2_1_1_0_0 none X.q X.k (constant S24x18432x2304 .f32 0x00000000#32)

theorem dot_apply (b : Fin 24) (i : Fin 2304) (g : Fin 8) (x : Fin 2304) :
    X.dot (ix3 b (row i g) x) = ∑ d : Fin 96, (X.head b).q i g d * (X.head b).k x d := by
  unfold Arr.dot
  refine (Ideal.matmul_apply₁_of (a := 2) (K := 96) dot_S24x18432x96_S24x2304x96_S24x18432x2304_2_2_1_1_0_0 rfl rfl X.q X.k _ (ix3 b (row i g) x)
    (fun d => ix3 b (row i g) d) (fun d => ix3 b x d) (fun d => by funext a; fin_cases a <;> rfl) (fun d => by funext a; fin_cases a <;> rfl)).trans ?_
  exact (congrArg (· + _) Pow2.c0).trans (zero_add _)

theorem s_apply (b : Fin 24) (i : Fin 2304) (g : Fin 8) (x : Fin 2304) :
    X.s (ix3 b (row i g) x) = (X.head b).T i g x * (X.head b).qs i g := by
  have e : X.s (ix3 b (row i g) x) = (∑ d : Fin 96, (X.head b).q i g d * (X.head b).k x d) * (X.head b).qs i g * (X.head b).ks x * Head.scale := by
    rw [← dot_apply]
    unfold Arr.s k0_pay2
    simp only [shapeCast_self]
    show mulf (mulf (mulf X.dot _) _) _ _ = _
    generalize X.dot = Z
    have h1 : broadcastTo S24x18432x2304 X.qs broadcasts_S24x18432x1_S24x18432x2304 (ix3 b (row i g) x) = (X.head b).qs i g := by
      unfold Arr.head
      pointwise
    have h2 : broadcastTo S24x18432x2304 X.ks broadcasts_S24x1x2304_S24x18432x2304 (ix3 b (row i g) x) = (X.head b).ks x := by
      unfold Arr.head
      pointwise
    rw [← h1, ← h2]
    rfl
  rw [e]
  unfold Head.T
  rw [Finset.sum_congr rfl fun d _ => mul_comm ((X.head b).k x d) ((X.head b).q i g d)]
  ac_rfl

theorem sel_apply (b : Fin 24) (i : Fin 2304) (g : Fin 8) (x : Fin 2304) :
    (select (k0_pay6 k0_pay3 k0_pay4 k0_pay5) X.s (broadcast S24x18432x2304 (Scalar.ofBits .f32 0xFF800000#32)) : FVec Ideal S24x18432x2304 .f32) (ix3 b (row i g) x)
      = if Head.Vis i x then (X.head b).T i g x * (X.head b).qs i g else ⊥ := by
  rw [← s_apply, ← Pow2.cbot]
  exact if_congr (vis_apply b i g x) rfl rfl

theorem lift_ix (b : Fin 24) (r : Fin 18432) (x : Fin 2304) : reduces_S24x18432x2304_S24x18432.lift (ix2 b r) x = ix3 b r x := by
  funext a
  fin_cases a <;> rfl

variable (hq : ∀ b i g, 0 ≤ (X.head b).qs i g)
include hq

theorem m_apply (b : Fin 24) (i : Fin 2304) (g : Fin 8) :
    k0_pay7 (X.s) k0_pay3 k0_pay4 k0_pay5 (ix3 b (row i g) (0 : Fin 1)) = (X.head b).m i g := by
  have e0 : k0_pay7 (X.s) k0_pay3 k0_pay4 k0_pay5 (ix3 b (row i g) (0 : Fin 1))
      = Ideal.liftRound Int.ceil (multiReduction .maximumf [2] S24x18432 (select (k0_pay6 k0_pay3 k0_pay4 k0_pay5) (X.s)
          (broadcast S24x18432x2304 (Scalar.ofBits .f32 0xFF800000#32))) 0xFF800000#32 reduces_S24x18432x2304_S24x18432 (.inl rfl) rfl (ix2 b (row i g))) := by
    have h : ∀ W : FVec Ideal S24x18432 .f32, ceil (shapeCast S24x18432x1 W shapeCasts_S24x18432_S24x18432x1) (ix3 b (row i g) (0 : Fin 1))
        = Ideal.liftRound Int.ceil (W (ix2 b (row i g))) := by
      intro W
      pointwise
    exact h _
  rw [e0]
  unfold Head.m
  refine congrArg (Ideal.liftRound Int.ceil) ?_
  have e1 : multiReduction .maximumf [2] S24x18432 (select (k0_pay6 k0_pay3 k0_pay4 k0_pay5) X.s
          (broadcast S24x18432x2304 (Scalar.ofBits .f32 0xFF800000#32))) 0xFF800000#32 reduces_S24x18432x2304_S24x18432 (.inl rfl) rfl (ix2 b (row i g))
      = (Finset.univ : Finset (Fin 2304)).fold max (⊥ : EReal) (fun y => if Head.Vis i y then (X.head b).T i g y * (X.head b).qs i g else ⊥) := by
    refine (Ideal.multiReduction_maximumf_single _ _ _ _ _ _).trans ?_
    refine congrArg₂ (fun c f => (Finset.univ : Finset (Fin 2304)).fold max c f) Pow2.cbot ?_
    funext y
    exact (congrArg _ (lift_ix b (row i g) y)).trans (sel_apply X b i g y)
  rw [e1]
  refine eq_of_forall_ge_iff fun z => ?_
  rw [(X.head b).M_mul i g (hq b i g), Finset.fold_max_le]
  constructor
  · rintro ⟨-, h⟩ y hy
    have h1 := h y (Finset.mem_univ y)
    rw [if_pos hy] at h1
    exact h1
  · intro h
    refine ⟨bot_le, fun y _ => ?_⟩
    split
    · rename_i hv
      exact h y hv
    · exact bot_le

theorem p_apply (b : Fin 24) (i : Fin 2304) (g : Fin 8) (x : Fin 2304) :
    k0_pay8 (X.s) k0_pay3 k0_pay4 k0_pay5 (ix3 b (row i g) x) = (X.head b).P i g x := by
  rw [(X.head b).P_eq i g (hq b i g), ← m_apply X hq, ← s_apply]
  have e : ∀ (u : BitVec 1) (s m : EReal),
      (Scalar.select u (Scalar.select (FloatOps.cmpf (F := Ideal) (φ := .f32) .oge
          (Ideal.div (Ideal.liftRound Ideal.roundHalfEven (Scalar.select u (s - m) (Ideal.ofBits .f32 0x00000000#32) * Ideal.ofBits .f32 0x4B000000#32)) (Ideal.ofBits .f32 0x4B000000#32))
          (Ideal.ofBits .f32 0xC2FC0000#32))
        (Ideal.exp2 (Ideal.liftRound Int.floor (Ideal.div (Ideal.liftRound Ideal.roundHalfEven (Scalar.select u (s - m) (Ideal.ofBits .f32 0x00000000#32) * Ideal.ofBits .f32 0x4B000000#32)) (Ideal.ofBits .f32 0x4B000000#32)))
          * (Ideal.ofBits .f32 0x3F800000#32 + (Ideal.div (Ideal.liftRound Ideal.roundHalfEven (Scalar.select u (s - m) (Ideal.ofBits .f32 0x00000000#32) * Ideal.ofBits .f32 0x4B000000#32)) (Ideal.ofBits .f32 0x4B000000#32)
            - Ideal.liftRound Int.floor (Ideal.div (Ideal.liftRound Ideal.roundHalfEven (Scalar.select u (s - m) (Ideal.ofBits .f32 0x00000000#32) * Ideal.ofBits .f32 0x4B000000#32)) (Ideal.ofBits .f32 0x4B000000#32)))))
        (max (Ideal.div (Ideal.liftRound Ideal.roundHalfEven (Scalar.select u (s - m) (Ideal.ofBits .f32 0x00000000#32) * Ideal.ofBits .f32 0x4B000000#32)) (Ideal.ofBits .f32 0x4B000000#32) + Ideal.ofBits .f32 0x42FE0000#32)
          (Ideal.ofBits .f32 0x00000000#32) * Ideal.ofBits .f32 0x00800000#32)) (Ideal.ofBits .f32 0x00000000#32) : EReal)
      = if u = 1 then Pow2.rp (s - m) else 0 := by
    intro u s m
    unfold Scalar.select
    by_cases hu : u = 1
    · rw [if_pos hu]
      have c1 : Ideal.ofBits .f32 0x3F800000#32 = (1 : EReal) := by
        simp only [Ideal.ofBits, Ideal.ieee]
        norm_num [BitVec.extractLsb', Nat.shiftRight_eq_div_pow]
      rw [if_pos hu, if_pos hu]
      simp only [c1, Pow2.c23, Pow2.c127, Pow2.cm126, Pow2.ctiny, Pow2.c0]
      unfold Pow2.rp
      refine if_congr ?_ rfl rfl
      show BitVec.ofBool (decide _) = 1#1 ↔ _
      rw [WordArith.ofBool_eq_one_iff, decide_eq_true_eq]
    · rw [if_neg hu, if_neg hu]
      exact Pow2.c0
  refine Eq.trans ?_ ((e (k0_pay6 k0_pay3 k0_pay4 k0_pay5 (ix3 b (row i g) x)) (X.s (ix3 b (row i g) x))
    (k0_pay7 (X.s) k0_pay3 k0_pay4 k0_pay5 (ix3 b (row i g) (0 : Fin 1)))).trans (if_congr (vis_apply b i g x) rfl rfl))
  have hb : ∀ W : FVec Ideal S24x18432x1 .f32, broadcastTo S24x18432x2304 W broadcasts_S24x18432x1_S24x18432x2304 (ix3 b (row i g) x)
      = W (ix3 b (row i g) (0 : Fin 1)) := by
    intro W
    pointwise
  rw [← hb (k0_pay7 X.s k0_pay3 k0_pay4 k0_pay5)]
  rfl

theorem l_apply (b : Fin 24) (i : Fin 2304) (g : Fin 8) :
    k0_pay9 (X.s) k0_pay3 k0_pay4 k0_pay5 (ix3 b (row i g) (0 : Fin 1)) = (X.head b).L i g := by
  have e0 : k0_pay9 (X.s) k0_pay3 k0_pay4 k0_pay5 (ix3 b (row i g) (0 : Fin 1))
      = multiReduction .add [2] S24x18432 (k0_pay8 (X.s) k0_pay3 k0_pay4 k0_pay5) 0x00000000#32 reduces_S24x18432x2304_S24x18432 (.inl rfl) rfl
          (ix2 b (row i g)) := by
    unfold k0_pay9
    pointwise
  refine e0.trans ((Ideal.multiReduction_add_single _ _ _ _ _ _).trans ?_)
  refine Finset.sum_congr rfl fun y _ => ?_
  exact (congrArg _ (lift_ix b (row i g) y)).trans (p_apply X hq b i g y)

/-! ## The results -/

/-- The weights times the values. -/
def acc (P : FVec Ideal S24x18432x2304 .fp8e4m3) (V : FVec Ideal S24x2304x96 .fp8e4m3) : FVec Ideal S24x18432x96 .f32 :=
  matmul dot_S24x18432x2304_S24x2304x96_S24x18432x96_2_1_1_2_0_0 none P V (constant S24x18432x96 .f32 0x00000000#32)

omit hq in
theorem acc_sum (P : FVec Ideal S24x18432x2304 .fp8e4m3) (V : FVec Ideal S24x2304x96 .fp8e4m3) (b : Fin 24) (r : Fin 18432) (d : Fin 96)
    (f g : Fin 2304 → EReal) (hf : ∀ x, P (ix3 b r x) = f x) (hg : ∀ x, V (ix3 b x d) = g x) : acc P V (ix3 b r d) = ∑ x, g x * f x := by
  unfold acc
  refine (Ideal.matmul_apply₁_of (a := 2) (K := 2304) dot_S24x18432x2304_S24x2304x96_S24x18432x96_2_1_1_2_0_0 rfl rfl P V _ (ix3 b r d)
    (fun x => ix3 b r x) (fun x => ix3 b x d) (fun x => by funext a; fin_cases a <;> rfl) (fun x => by funext a; fin_cases a <;> rfl)).trans ?_
  refine (congrArg (· + _) Pow2.c0).trans ((zero_add _).trans ?_)
  refine Finset.sum_congr rfl fun x _ => ?_
  rw [mul_comm]
  exact congrArg₂ (· * ·) (hg x) (hf x)

theorem acc_apply (b : Fin 24) (i : Fin 2304) (g : Fin 8) (d : Fin 96) :
    acc (k0_pay10 X.s k0_pay3 k0_pay4 k0_pay5) (k0_pay11 X.v) (ix3 b (row i g) d) = ∑ x, (X.head b).v x d * (X.head b).P i g x :=
  acc_sum _ _ b (row i g) d _ _ (fun x => p_apply X hq b i g x) (fun x => congrFun (shapeCast_self _ _) _)

theorem out_apply (b : Fin 12) (i : Fin 2304) (h : Fin 16) (d : Fin 96) :
    k0_pay12 (k0_pay9 (X.s) k0_pay3 k0_pay4 k0_pay5) (k0_pay10 (X.s) k0_pay3 k0_pay4 k0_pay5) (k0_pay11 X.v)
        (constant S24x18432x96 .f32 0x00000000#32) X.vs (ix4 b i h d)
      = (X.head ⟨b.val * 2 + h.val / 8, by omega⟩).out i ⟨h.val % 8, Nat.mod_lt _ (by decide)⟩ d := by
  unfold Head.out
  rw [← acc_apply X hq, ← l_apply X hq]
  generalize k0_pay9 (X.s) k0_pay3 k0_pay4 k0_pay5 = L
  generalize k0_pay10 (X.s) k0_pay3 k0_pay4 k0_pay5 = P
  generalize k0_pay11 X.v = V
  unfold k0_pay12
  change shapeCast S12x2304x16x96 (transpose S12x2304x2x8x96 [0, 2, 1, 3, 4] (shapeCast S12x2x2304x8x96 (truncf .bf16 (mulf (acc P V) _) _) _) _) _ _ = _
  generalize acc P V = Z
  refine (shapeCast_apply _ _ _ (ix5 b i (⟨h.val / 8, by omega⟩ : Fin 2) (⟨h.val % 8, Nat.mod_lt _ (by decide)⟩ : Fin 8) d) ?_).trans ?_
  · rw [Shape.rowMajor_val_five, Shape.rowMajor_val_four]
    show (((b.val * 2304 + i.val) * 2 + h.val / 8) * 8 + h.val % 8) * 96 + d.val = ((b.val * 2304 + i.val) * 16 + h.val) * 96 + d.val
    omega
  have e1 : ∀ W : FVec Ideal S12x2x2304x8x96 .bf16, transpose S12x2304x2x8x96 [0, 2, 1, 3, 4] W transposes_S12x2x2304x8x96_p0_2_1_3_4_S12x2304x2x8x96
      (ix5 b i (⟨h.val / 8, by omega⟩ : Fin 2) (⟨h.val % 8, Nat.mod_lt _ (by decide)⟩ : Fin 8) d)
        = W (ix5 b (⟨h.val / 8, by omega⟩ : Fin 2) i (⟨h.val % 8, Nat.mod_lt _ (by decide)⟩ : Fin 8) d) := by
    intro W
    pointwise
  rw [e1]
  refine (shapeCast_apply _ _ _ (ix3 (⟨b.val * 2 + h.val / 8, by omega⟩ : Fin 24) (row i ⟨h.val % 8, Nat.mod_lt _ (by decide)⟩) d) ?_).trans ?_
  · rw [Shape.rowMajor_val_five, Shape.rowMajor_val_three]
    show ((b.val * 2 + h.val / 8) * 18432 + (i.val * 8 + h.val % 8)) * 96 + d.val = (((b.val * 2 + h.val / 8) * 2304 + i.val) * 8 + h.val % 8) * 96 + d.val
    omega
  · generalize row i ⟨h.val % 8, _⟩ = r
    generalize (⟨b.val * 2 + h.val / 8, _⟩ : Fin 24) = c
    pointwise
    rfl

omit hq in
theorem rows_apply (W : FVec Ideal S24x18432x1 .f32) (b : Fin 12) (kv : Fin 2) (r : Fin 144) (j : Fin 128) :
    shapeCast S12x2x144x128 (shapeCast S12x2x144x16x8x1 W shapeCasts_S24x18432x1_S12x2x144x16x8x1) shapeCasts_S12x2x144x16x8x1_S12x2x144x128 (ix4 b kv r j)
      = W (ix3 (⟨b.val * 2 + kv.val, by omega⟩ : Fin 24) (row ⟨r.val * 16 + j.val / 8, by omega⟩ ⟨j.val % 8, Nat.mod_lt _ (by decide)⟩) (0 : Fin 1)) := by
  refine (shapeCast_apply _ _ _ (ix6 b kv r (⟨j.val / 8, by omega⟩ : Fin 16) (⟨j.val % 8, Nat.mod_lt _ (by decide)⟩ : Fin 8) (0 : Fin 1)) ?_).trans
    (shapeCast_apply _ _ _ _ ?_)
  · rw [rowMajor_val6 _ 36864 18432 128 8 1 rfl rfl rfl rfl rfl, Shape.rowMajor_val_four]
    show b.val * 36864 + kv.val * 18432 + r.val * 128 + j.val / 8 * 8 + j.val % 8 * 1 + 0 = ((b.val * 2 + kv.val) * 144 + r.val) * 128 + j.val
    omega
  · rw [rowMajor_val6 _ 36864 18432 128 8 1 rfl rfl rfl rfl rfl, Shape.rowMajor_val_three]
    show ((b.val * 2 + kv.val) * 18432 + ((r.val * 16 + j.val / 8) * 8 + j.val % 8)) * 1 + 0 = b.val * 36864 + kv.val * 18432 + r.val * 128 + j.val / 8 * 8 + j.val % 8 * 1 + 0
    omega

omit hq in
theorem core_apply (M L N : FVec Ideal S24x18432x1 .f32) (x : S24x18432x1.Idx) (m l n : EReal) (hM : M x = m) (hL : L x = l) (hN : N x = n) :
    subf (addf M (divf (log L) (log (broadcast S24x18432x1 (Scalar.ofBits .f32 0x40000000#32)))))
        (divf (log N) (log (broadcast S24x18432x1 (Scalar.ofBits .f32 0x40000000#32)))) x
      = m + Ideal.div (Ideal.log l) Head.log2e - Ideal.div (Ideal.log n) Head.log2e := by
  subst hM hL hN
  rfl

theorem lse_apply (b : Fin 12) (kv : Fin 2) (r : Fin 144) (j : Fin 128) :
    k0_pay1 (k0_pay7 (X.s) k0_pay3 k0_pay4 k0_pay5) (k0_pay13 (F := Ideal)) (k0_pay14 (k0_pay9 (X.s) k0_pay3 k0_pay4 k0_pay5))
        (ix4 b kv r j)
      = (X.head ⟨b.val * 2 + kv.val, by omega⟩).lse ⟨r.val * 16 + j.val / 8, by omega⟩ ⟨j.val % 8, Nat.mod_lt _ (by decide)⟩ := by
  unfold k0_pay1 k0_pay14
  exact (rows_apply _ b kv r j).trans (core_apply _ _ _ _ _ _ _ (m_apply X hq _ _ _) (l_apply X hq _ _ _) (pos1_apply _ _ _))

end

end Cert.RefSpec
-- ==== Proof.RefArr.lean ====
/- The reference's result arrays are the specification's. -/
module

public import proofs.«01_k».proof.Proof.RefSpec
public import proofs.«01_k».proof.Proof.ArgHead
public import Idealize.ShloMosaic.Lib.Pipeline.ValueKit
public import Idealize.ShloMosaic.Lib.StableHlo.Run

@[expose] public section

noncomputable section

namespace Cert.RefSpec

open Idealize.ShloMosaic Idealize.ShloMosaic.TcCoe Idealize.SL.Sem Cert.ReferenceIdeal Cert.ReferenceIdeal.Gen

section
variable (a0 : Vec Ideal S12x2304x16x96 .fp8e4m3) (a1 : Vec Ideal S12x2304x16 .f32) (a2 : Vec Ideal S12x2304x2x96 .fp8e4m3)
  (a3 : Vec Ideal S12x2304x2 .f32) (a4 : Vec Ideal S12x2304x2x96 .fp8e4m3) (a5 : Vec Ideal S12x2 .f32)

/-- The arrays the host hands the body. -/
def hostArr : Arr where
  q := shapeCast S24x18432x96 (transpose S12x2x2304x8x96 [0, 2, 1, 3, 4] (shapeCast S12x2304x2x8x96 a0 shapeCasts_S12x2304x16x96_S12x2304x2x8x96)
    transposes_S12x2304x2x8x96_S12x2x2304x8x96_0_2_1_3_4) shapeCasts_S12x2x2304x8x96_S24x18432x96
  qs := shapeCast S24x18432x1 (transpose S12x2x2304x8 [0, 2, 1, 3] (shapeCast S12x2304x2x8 a1 shapeCasts_S12x2304x16_S12x2304x2x8)
    transposes_S12x2304x2x8_S12x2x2304x8_0_2_1_3) shapeCasts_S12x2x2304x8_S24x18432x1
  k := shapeCast S24x2304x96 (transpose S12x2x2304x96 [0, 2, 1, 3] a2 transposes_S12x2304x2x96_S12x2x2304x96_0_2_1_3) shapeCasts_S12x2x2304x96_S24x2304x96
  ks := shapeCast S24x1x2304 (transpose S12x2x2304 [0, 2, 1] a3 transposes_S12x2304x2_S12x2x2304_0_2_1) shapeCasts_S12x2x2304_S24x1x2304
  v := shapeCast S24x2304x96 (transpose S12x2x2304x96 [0, 2, 1, 3] a4 transposes_S12x2304x2x96_S12x2x2304x96_0_2_1_3) shapeCasts_S12x2x2304x96_S24x2304x96
  vs := shapeCast S24x1x1 a5 shapeCasts_S12x2_S24x1x1

def pair (b : Fin 12) (kv : Fin 2) : Fin 24 := ⟨b.val * 2 + kv.val, by omega⟩

theorem q_host (b : Fin 12) (kv : Fin 2) (i : Fin 2304) (g : Fin 8) (d : Fin 96) :
    (hostArr a0 a1 a2 a3 a4 a5).q (ix3 (pair b kv) (row i g) d) = a0 (ix4 b i (headOf kv g) d) := by
  simp only [hostArr]
  refine (shapeCast_apply _ _ _ (ix5 b kv i g d) ?_).trans
    ((congrArg (shapeCast S12x2304x2x8x96 a0 shapeCasts_S12x2304x16x96_S12x2304x2x8x96) (?_ : _ = ix5 b i kv g d)).trans (shapeCast_apply _ _ _ (ix4 b i (headOf kv g) d) ?_))
  · rw [Shape.rowMajor_val_five, Shape.rowMajor_val_three]
    show (((b.val * 2 + kv.val) * 2304 + i.val) * 8 + g.val) * 96 + d.val = ((b.val * 2 + kv.val) * 18432 + (i.val * 8 + g.val)) * 96 + d.val
    omega
  · funext a
    fin_cases a <;> rfl
  · rw [Shape.rowMajor_val_five, Shape.rowMajor_val_four]
    show ((b.val * 2304 + i.val) * 16 + (kv.val * 8 + g.val)) * 96 + d.val = (((b.val * 2304 + i.val) * 2 + kv.val) * 8 + g.val) * 96 + d.val
    omega

theorem qs_host (b : Fin 12) (kv : Fin 2) (i : Fin 2304) (g : Fin 8) :
    (hostArr a0 a1 a2 a3 a4 a5).qs (ix3 (pair b kv) (row i g) (0 : Fin 1)) = a1 (ix3 b i (headOf kv g)) := by
  simp only [hostArr]
  refine (shapeCast_apply _ _ _ (ix4 b kv i g) ?_).trans
    ((congrArg (shapeCast S12x2304x2x8 a1 shapeCasts_S12x2304x16_S12x2304x2x8) (?_ : _ = ix4 b i kv g)).trans (shapeCast_apply _ _ _ (ix3 b i (headOf kv g)) ?_))
  · rw [Shape.rowMajor_val_four, Shape.rowMajor_val_three]
    show ((b.val * 2 + kv.val) * 2304 + i.val) * 8 + g.val = ((b.val * 2 + kv.val) * 18432 + (i.val * 8 + g.val)) * 1 + 0
    omega
  · funext a
    fin_cases a <;> rfl
  · rw [Shape.rowMajor_val_four, Shape.rowMajor_val_three]
    show (b.val * 2304 + i.val) * 16 + (kv.val * 8 + g.val) = ((b.val * 2304 + i.val) * 2 + kv.val) * 8 + g.val
    omega

theorem kv_host (a : Vec Ideal S12x2304x2x96 .fp8e4m3) (b : Fin 12) (kv : Fin 2) (x : Fin 2304) (d : Fin 96) :
    shapeCast S24x2304x96 (transpose S12x2x2304x96 [0, 2, 1, 3] a transposes_S12x2304x2x96_S12x2x2304x96_0_2_1_3) shapeCasts_S12x2x2304x96_S24x2304x96
      (ix3 (pair b kv) x d) = a (ix4 b x kv d) := by
  refine (shapeCast_apply _ _ _ (ix4 b kv x d) ?_).trans (congrArg a ?_)
  · rw [Shape.rowMajor_val_four, Shape.rowMajor_val_three]
    rfl
  · funext a
    fin_cases a <;> rfl

theorem ks_host (b : Fin 12) (kv : Fin 2) (x : Fin 2304) :
    (hostArr a0 a1 a2 a3 a4 a5).ks (ix3 (pair b kv) (0 : Fin 1) x) = a3 (ix3 b x kv) := by
  simp only [hostArr]
  refine (shapeCast_apply _ _ _ (ix3 b kv x) ?_).trans (congrArg a3 ?_)
  · rw [Shape.rowMajor_val_three, Shape.rowMajor_val_three]
    show (b.val * 2 + kv.val) * 2304 + x.val = ((b.val * 2 + kv.val) * 1 + 0) * 2304 + x.val
    omega
  · funext a
    fin_cases a <;> rfl

theorem vs_host (b : Fin 12) (kv : Fin 2) :
    (hostArr a0 a1 a2 a3 a4 a5).vs (ix3 (pair b kv) (0 : Fin 1) (0 : Fin 1)) = a5 (ix2 b kv) := by
  simp only [hostArr]
  refine shapeCast_apply _ _ _ (ix2 b kv) ?_
  rw [Shape.rowMajor_val_two, Shape.rowMajor_val_three]
  show b.val * 2 + kv.val = ((b.val * 2 + kv.val) * 1 + 0) * 1 + 0
  omega

theorem head_host (b : Fin 12) (kv : Fin 2) : (hostArr a0 a1 a2 a3 a4 a5).head (pair b kv) = argHead a0 a1 a2 a3 a4 a5 b kv := by
  unfold Arr.head argHead
  congr 1
  · funext i g d; exact q_host a0 a1 a2 a3 a4 a5 b kv i g d
  · funext x d; exact kv_host a2 b kv x d
  · funext x d; exact kv_host a4 b kv x d
  · funext i g; exact qs_host a0 a1 a2 a3 a4 a5 b kv i g
  · funext x; exact ks_host a0 a1 a2 a3 a4 a5 b kv x
  · exact vs_host a0 a1 a2 a3 a4 a5 b kv

theorem scales_host (hq : ∀ y, 0 ≤ a1 y) (b : Fin 24) (i : Fin 2304) (g : Fin 8) : 0 ≤ ((hostArr a0 a1 a2 a3 a4 a5).head b).qs i g := by
  have hb : b = pair ⟨b.val / 2, by omega⟩ ⟨b.val % 2, Nat.mod_lt _ (by decide)⟩ := Fin.ext (by show b.val = b.val / 2 * 2 + b.val % 2; omega)
  rw [hb, head_host]
  exact hq _

end

/-! ## The blocks are the whole arrays -/

section
variable (m : (ℓ : Loc nD τ sig) → Buf (Elt Ideal) ℓ) (c : Dev nD)

/-- The arrays the arguments in memory make. -/
def memArr : Arr :=
  hostArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V_q : V m c main_v2 = (memArr m c).q := by
  show StableHlo.after hostOps0 _ (Proc.devRef .tc main_v2) = _
  after_results
  rfl
theorem V_qs : V m c main_v5 = (memArr m c).qs := by
  show StableHlo.after hostOps0 _ (Proc.devRef .tc main_v5) = _
  after_results
  rfl
theorem V_k : V m c main_v7 = (memArr m c).k := by
  show StableHlo.after hostOps0 _ (Proc.devRef .tc main_v7) = _
  after_results
  rfl
theorem V_ks : V m c main_v9 = (memArr m c).ks := by
  show StableHlo.after hostOps0 _ (Proc.devRef .tc main_v9) = _
  after_results
  rfl
theorem V_v : V m c main_v11 = (memArr m c).v := by
  show StableHlo.after hostOps0 _ (Proc.devRef .tc main_v11) = _
  after_results
  rfl
theorem V_vs : V m c main_v12 = (memArr m c).vs := by
  show StableHlo.after hostOps0 _ (Proc.devRef .tc main_v12) = _
  after_results
  rfl

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![0, 0, 0, 0] := (by decide +kernel : ∀ t : Fin grid0.N, _)

theorem blk_q (t : Fin cfg0.N) : iblk m c 0 t = (memArr m c).q := by
  rw [← V_q]; funext y; exact congrArg (V m c main_v2) (by blk_ext [idx0 t])
theorem blk_qs (t : Fin cfg0.N) : iblk m c 1 t = (memArr m c).qs := by
  rw [← V_qs]; funext y; exact congrArg (V m c main_v5) (by blk_ext [idx1 t])
theorem blk_k (t : Fin cfg0.N) : iblk m c 2 t = (memArr m c).k := by
  rw [← V_k]; funext y; exact congrArg (V m c main_v7) (by blk_ext [idx2 t])
theorem blk_ks (t : Fin cfg0.N) : iblk m c 3 t = (memArr m c).ks := by
  rw [← V_ks]; funext y; exact congrArg (V m c main_v9) (by blk_ext [idx3 t])
theorem blk_v (t : Fin cfg0.N) : iblk m c 4 t = (memArr m c).v := by
  rw [← V_v]; funext y; exact congrArg (V m c main_v11) (by blk_ext [idx4 t])
theorem blk_vs (t : Fin cfg0.N) : iblk m c 5 t = (memArr m c).vs := by
  rw [← V_vs]; funext y; exact congrArg (V m c main_v12) (by blk_ext [idx5 t])

theorem fin4 {f : Fin 4 → ℕ} (h0 : f 0 = 0) (h1 : f 1 = 0) (h2 : f 2 = 0) (h3 : f 3 = 0) (a : Fin 4) : f a = 0 := by
  fin_cases a
  · exact h0
  · exact h1
  · exact h2
  · exact h3

theorem fin3 {f : Fin 3 → ℕ} (h0 : f 0 = 0) (h1 : f 1 = 0) (h2 : f 2 = 0) (a : Fin 3) : f a = 0 := by
  fin_cases a
  · exact h0
  · exact h1
  · exact h2

variable (X : Arr)

theorem out_body : out0_6 X.q X.qs X.k X.ks X.v X.vs
    = k0_pay12 (k0_pay9 X.s k0_pay3 k0_pay4 k0_pay5) (k0_pay10 X.s k0_pay3 k0_pay4 k0_pay5) (k0_pay11 X.v)
        (constant S24x18432x96 .f32 0x00000000#32) X.vs := by
  unfold_out out0_6
  refine (View.canon_cons_unit_lit _ _ _ (fin4 rfl rfl rfl rfl)).trans ?_
  have e0 : View.ld X.q r0_0 = X.q := View.ld_unit_lit _ _ (fin3 rfl rfl rfl)
  have e1 : View.ld X.qs r0_2 = X.qs := View.ld_unit_lit _ _ (fin3 rfl rfl rfl)
  have e2 : View.ld X.k r0_1 = X.k := View.ld_unit_lit _ _ (fin3 rfl rfl rfl)
  have e3 : View.ld X.ks r0_3 = X.ks := View.ld_unit_lit _ _ (fin3 rfl rfl rfl)
  have e4 : View.ld X.v r0_1 = X.v := View.ld_unit_lit _ _ (fin3 rfl rfl rfl)
  have e5 : View.ld X.vs r0_4 = X.vs := View.ld_unit_lit _ _ (fin3 rfl rfl rfl)
  rw [e0, e1, e2, e3, e4, e5]
  rfl

theorem lse_body : out0_7 X.q X.qs X.k X.ks X.v X.vs
    = k0_pay1 (k0_pay7 X.s k0_pay3 k0_pay4 k0_pay5) (k0_pay13 (F := Ideal)) (k0_pay14 (k0_pay9 X.s k0_pay3 k0_pay4 k0_pay5)) := by
  unfold_out out0_7
  refine (View.canon_cons_unit_lit _ _ _ (fin4 rfl rfl rfl rfl)).trans ?_
  have e0 : View.ld X.q r0_0 = X.q := View.ld_unit_lit _ _ (fin3 rfl rfl rfl)
  have e1 : View.ld X.qs r0_2 = X.qs := View.ld_unit_lit _ _ (fin3 rfl rfl rfl)
  have e2 : View.ld X.k r0_1 = X.k := View.ld_unit_lit _ _ (fin3 rfl rfl rfl)
  have e3 : View.ld X.ks r0_3 = X.ks := View.ld_unit_lit _ _ (fin3 rfl rfl rfl)
  rw [e0, e1, e2, e3]
  rfl

variable (hq : ∀ y : S12x2304x16.Idx, (0 : EReal) ≤ (m ((c : Thread nD τ).loc main_arg1) : S12x2304x16.Idx → EReal) y)
include hq

theorem arr_out : (Cert.ReferenceIdeal.Gen.dats m 0 c).arrAt 6 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Cert.ReferenceIdeal.Gen.dats m 0 c).arrAt_eq_of_covers 6 _ (by decide +kernel) fun t hf y => ?_
  blk_simp
  have ey : (win0_6.blk t).view.emb y = y := by blk_ext [idx6 t]
  rw [after0_6, blk_q, blk_qs, blk_k, blk_ks, blk_v, blk_vs, out_body, ey]
  obtain ⟨b, i, h, d, rfl⟩ : ∃ (b : Fin 12) (i : Fin 2304) (h : Fin 16) (d : Fin 96), y = ix4 b i h d :=
    ⟨y 0, y 1, y 2, y 3, by funext a; fin_cases a <;> rfl⟩
  refine (out_apply (memArr m c) (scales_host _ _ _ _ _ _ hq) b i h d).trans ?_
  exact congrArg (fun H : Head => H.out i ⟨h.val % 8, Nat.mod_lt _ (by decide)⟩ d) (head_host _ _ _ _ _ _ b ⟨h.val / 8, by omega⟩)

theorem arr_lse : (Cert.ReferenceIdeal.Gen.dats m 0 c).arrAt 7 cfg0.N
    = lseArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Cert.ReferenceIdeal.Gen.dats m 0 c).arrAt_eq_of_covers 7 _ (by decide +kernel) fun t hf y => ?_
  blk_simp
  have ey : (win0_7.blk t).view.emb y = y := by blk_ext [idx7 t]
  rw [after0_7, blk_q, blk_qs, blk_k, blk_ks, blk_v, blk_vs, lse_body, ey]
  obtain ⟨b, kv, r, j, rfl⟩ : ∃ (b : Fin 12) (kv : Fin 2) (r : Fin 144) (j : Fin 128), y = ix4 b kv r j :=
    ⟨y 0, y 1, y 2, y 3, by funext a; fin_cases a <;> rfl⟩
  refine (lse_apply (memArr m c) (scales_host _ _ _ _ _ _ hq) b kv r j).trans ?_
  exact congrArg (fun H : Head => H.lse ⟨r.val * 16 + j.val / 8, by omega⟩ ⟨j.val % 8, Nat.mod_lt _ (by decide)⟩) (head_host _ _ _ _ _ _ b kv)

end

end Cert.RefSpec
-- ==== Proof.Claims.lean ====
/- The claims: the idealized kernel's frame, what the precondition says of the query scales, and the value claim of both
   results. -/
module

public import proofs.«01_k».proof.Defs
public import proofs.«01_k».proof.Proof.Gen.ReferenceIdeal.Value
public import proofs.«01_k».proof.Proof.Gen.Pre_scales_nonneg
public import proofs.«01_k».proof.Proof.KerArr
public import proofs.«01_k».proof.Proof.RefArr
public import Idealize.ShloMosaic.Lib.ReduceAll

@[expose] public section

noncomputable section

namespace Cert.Claims

open Idealize.ShloMosaic Idealize.SL.Sem

/-- The idealized kernel runs, leaves its arguments as they were and every counter at zero. -/
theorem frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
        ∧ r.2.sem = fun _ => 0) :=
  (θ_run _ _ _).mono (fun r h => ⟨fun c => ⟨Cert.Roll.kept_main_arg0 m r h.1 c, Cert.Roll.kept_main_arg1 m r h.1 c,
    Cert.Roll.kept_main_arg2 m r h.1 c, Cert.Roll.kept_main_arg3 m r h.1 c, Cert.Roll.kept_main_arg4 m r h.1 c,
    Cert.Roll.kept_main_arg5 m r h.1 c⟩, h.2⟩) (Cert.Roll.run_main_quiescent m g)

/-- The precondition, read back: no query scale is negative. -/
theorem scales_nonneg
    (m : (ℓ : Loc Cert.KernelIdeal.nD Cert.KernelIdeal.τ Cert.KernelIdeal.sig) → Buf (Elt Ideal) ℓ)
    (h : Cert.Pre_KernelIdeal_scales_nonneg m) (c : Dev Cert.KernelIdeal.nD) (y : Cert.KernelIdeal.S12x2304x16.Idx) :
    (0 : EReal) ≤ (m ((c.tc : Thread Cert.KernelIdeal.nD Cert.KernelIdeal.τ).loc Cert.KernelIdeal.main_arg1)
      : Cert.KernelIdeal.S12x2304x16.Idx → EReal) y := by
  have : Subsingleton Cert.Pre_scales_nonneg.S_.Idx := ⟨fun a b => funext fun d => d.elim0⟩
  have h0 := congrFun (h c) (fun d => d.elim0)
  have h1 := Host.reduce_andi_all _ _ _ _ _ h0 y
  have h2 : Ideal.cmp .oge ((m ((c.tc : Thread Cert.KernelIdeal.nD Cert.KernelIdeal.τ).loc Cert.KernelIdeal.main_arg1)
      : Cert.KernelIdeal.S12x2304x16.Idx → EReal) y) (Ideal.ofBits .f32 0x00000000#32) = 1#1 := h1
  have h3 : Ideal.ofBits .f32 0x00000000#32 = 0 := by simp
  rw [h3] at h2
  by_contra hn
  rw [show Ideal.cmp .oge _ (0 : EReal) = BitVec.ofBool (decide _) from rfl, decide_eq_false hn] at h2
  exact absurd h2 (by decide)

/-- Both results of both programs are the specification's arrays. -/
theorem algebraic : Cert.algebraic_KernelIdeal_ReferenceIdeal_pre_scales_nonneg := by
  intro m g m' g' hp he
  have hq : ∀ (c : Dev Cert.KernelIdeal.nD) (y : Cert.KernelIdeal.S12x2304x16.Idx), (0 : EReal) ≤
      (m' ((c.tc : Thread Cert.ReferenceIdeal.nD Cert.ReferenceIdeal.τ).loc Cert.ReferenceIdeal.main_arg1)
        : Cert.KernelIdeal.S12x2304x16.Idx → EReal) y := by
    intro c y
    rw [(he c).2.1]
    exact scales_nonneg m hp c y
  refine ⟨_, _, (θ_run _ _ _).mono (fun r h c => ⟨(Cert.Roll.post6 m r h.1 c).trans (Cert.Roll.arr_out m c),
    (Cert.Roll.post7 m r h.1 c).trans (Cert.Roll.arr_lse m c), Cert.Roll.kept_main_arg0 m r h.1 c,
    Cert.Roll.kept_main_arg1 m r h.1 c, Cert.Roll.kept_main_arg2 m r h.1 c, Cert.Roll.kept_main_arg3 m r h.1 c,
    Cert.Roll.kept_main_arg4 m r h.1 c, Cert.Roll.kept_main_arg5 m r h.1 c⟩) (Cert.Roll.run_main_quiescent m g),
    (θ_run _ _ _).mono (fun r h c => ?_) (Cert.ReferenceIdeal.Value.run_blocks m' g')⟩
  obtain ⟨e0, e1, e2, e3, e4, e5⟩ := he c
  obtain ⟨h6, h7, hk⟩ := h c
  refine ⟨(h6.trans (Cert.RefSpec.arr_out m' c (hq c))).trans ?_, (h7.trans (Cert.RefSpec.arr_lse m' c (hq c))).trans ?_, hk⟩
  · rw [e0, e1, e2, e3, e4, e5]
  · rw [e0, e1, e2, e3, e4, e5]

end Cert.Claims

end
-- ==== Proof.lean ====
/- Both programs run and leave their arguments as they were, and both compute the specification of every batch entry and key
   head. -/
module

public import proofs.«01_k».proof.Defs
public import proofs.«01_k».proof.Proof.Gen.ReferenceIdeal.Frame
public import proofs.«01_k».proof.Proof.Gen.ReferenceIdeal.Value
public import proofs.«01_k».proof.Proof.Gen.Pre_scales_nonneg
public import proofs.«01_k».proof.Proof.KernelFrame
public import proofs.«01_k».proof.Proof.Claims

@[expose] public section

theorem Cert.Proof.claim : Cert.Claim :=
  ⟨Cert.Kernel.Gen.facts, Cert.KernelIdeal.Gen.facts, Cert.ReferenceIdeal.Gen.facts, Cert.Pre_scales_nonneg.Gen.facts,
    fun m ρ _ => Cert.KernelFrame.frame m ρ, fun m ρ _ => Cert.Claims.frame m ρ, fun m ρ _ => Cert.Claims.frame m ρ,
    fun m ρ _ => Cert.ReferenceIdeal.Gen.frame m ρ, fun m ρ _ => Cert.ReferenceIdeal.Gen.frame m ρ, trivial,
    Cert.Claims.algebraic⟩

end
